-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routes_in_range_KernelIdeal [hPre_routes_in_range_KernelIdeal : Cert.Pre_routes_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routes_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routes_in_range_ReferenceIdeal [hPre_routes_in_range_ReferenceIdeal : Cert.Pre_routes_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routes_in_range_KernelIdeal [hKernelIdeal : Cert.KernelIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routes_in_range_ReferenceIdeal [hReferenceIdeal : Cert.ReferenceIdeal.Facts] [hPre_routes_in_range_ReferenceIdeal : Cert.Pre_routes_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routes_in_range_KernelIdeal [hKernelIdeal : Cert.KernelIdeal.Facts] [hReferenceIdeal : Cert.ReferenceIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routes_in_range_KernelIdeal : Cert.Pre_routes_in_range_KernelIdeal.Facts) (hPre_routes_in_range_ReferenceIdeal : Cert.Pre_routes_in_range_ReferenceIdeal.Facts),
    quiescent_Kernel (hKernel := hKernel)
    ∧ quiescent_KernelIdeal (hKernelIdeal := hKernelIdeal)
    ∧ quiescent_KernelIdeal_pre_routes_in_range_KernelIdeal (hKernelIdeal := hKernelIdeal) (hPre_routes_in_range_KernelIdeal := hPre_routes_in_range_KernelIdeal)
    ∧ quiescent_ReferenceIdeal (hReferenceIdeal := hReferenceIdeal)
    ∧ quiescent_ReferenceIdeal_pre_routes_in_range_ReferenceIdeal (hReferenceIdeal := hReferenceIdeal) (hPre_routes_in_range_ReferenceIdeal := hPre_routes_in_range_ReferenceIdeal)
    ∧ preserves_Kernel_KernelIdeal
    ∧ algebraic_KernelIdeal_ReferenceIdeal_pre_routes_in_range_KernelIdeal (hKernelIdeal := hKernelIdeal) (hReferenceIdeal := hReferenceIdeal) (hPre_routes_in_range_KernelIdeal := hPre_routes_in_range_KernelIdeal)
-- ==== Pre_routes_in_range_KernelIdeal.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .f32) (main_arg1 : FVec F S256x64 .f32) (main_arg2 : IVec S512x1 32) (main_arg3 : FVec F S2x256x512 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 1 := constantI S_ 1 1#1
  let main_v2 : IVec S_ 1 := (fun x v => Host.reduce IntOp.andi x v reducesTo_S512x1_S_d0_1 h_S_) main_v1 main_c_0
  let main_c_1 : IVec S_ 32 := constantI S_ 32 64#32
  let main_v3 : IVec S512x1 32 := broadcastInDim S512x1 ![] bcast_S_S512x1 main_c_1
  let main_v4 : IVec S512x1 1 := cmpi .slt main_arg2 main_v3
  let main_c_2 : IVec S_ 1 := constantI S_ 1 1#1
  let main_v5 : IVec S_ 1 := (fun x v => Host.reduce IntOp.andi x v reducesTo_S512x1_S_d0_1 h_S_) main_v4 main_c_2
  let main_v6 : IVec S_ 1 := andi main_v2 main_v5
  main_v6
-- ==== Pre_routes_in_range_ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .f32) (main_arg1 : FVec F S256x64 .f32) (main_arg2 : IVec S512x1 32) (main_arg3 : FVec F S64x256x512 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 1 := constantI S_ 1 1#1
  let main_v2 : IVec S_ 1 := (fun x v => Host.reduce IntOp.andi x v reducesTo_S512x1_S_d0_1 h_S_) main_v1 main_c_0
  let main_c_1 : IVec S_ 32 := constantI S_ 32 64#32
  let main_v3 : IVec S512x1 32 := broadcastInDim S512x1 ![] bcast_S_S512x1 main_c_1
  let main_v4 : IVec S512x1 1 := cmpi .slt main_arg2 main_v3
  let main_c_2 : IVec S_ 1 := constantI S_ 1 1#1
  let main_v5 : IVec S_ 1 := (fun x v => Host.reduce IntOp.andi x v reducesTo_S512x1_S_d0_1 h_S_) main_v4 main_c_2
  let main_v6 : IVec S_ 1 := andi main_v2 main_v5
  main_v6
-- ==== Kernel.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S512x512 : Shape := ⟨2, ![512, 512]⟩
abbrev S32x12x512 : Shape := ⟨3, ![32, 12, 512]⟩
abbrev S31 : Shape := ⟨1, ![31]⟩
abbrev S_ : Shape := ⟨0, ![]⟩
abbrev S512x64 : Shape := ⟨2, ![512, 64]⟩
abbrev S512 : Shape := ⟨1, ![512]⟩
abbrev S512x12 : Shape := ⟨2, ![512, 12]⟩
abbrev S12x256 : Shape := ⟨2, ![12, 256]⟩
abbrev S1x256x512 : Shape := ⟨3, ![1, 256, 512]⟩
abbrev S256x512 : Shape := ⟨2, ![256, 512]⟩
abbrev S12x512 : Shape := ⟨2, ![12, 512]⟩
abbrev S1x12x512 : Shape := ⟨3, ![1, 12, 512]⟩
abbrev S512x384 : Shape := ⟨2, ![512, 384]⟩
abbrev S1 : Shape := ⟨1, ![1]⟩
abbrev S384x512 : Shape := ⟨2, ![384, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S512x1, .i32⟩
  | .local _ .vmem, ⟨2, _⟩ => ⟨S2x256x512, .f32⟩
  | .local _ .vmem, ⟨3, _⟩ => ⟨S512x512, .f32⟩
  | .local _ .vmem, ⟨4, _⟩ => ⟨S32x12x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_151 : BitVec 32 := 1#32
  let v204 : BitVec 32 := Scalar.addi v2 c1_i32_151
  let c32_i32_152 : BitVec 32 := 32#32
  let v205 : BitVec 32 := Scalar.remsi v204 c32_i32_152
  let c1_i32_157 : BitVec 32 := 1#32
  let v206 : BitVec 32 := Scalar.muli v205 c1_i32_157
  let v207 : BitVec 32 := Scalar.addi c0_i32_158 v206
  v207.toNat
def k0_dev33 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_163 : BitVec 32 := 2#32
  let v216 : BitVec 32 := Scalar.addi v2 c2_i32_163
  let c32_i32_164 : BitVec 32 := 32#32
  let v217 : BitVec 32 := Scalar.remsi v216 c32_i32_164
  let c1_i32_169 : BitVec 32 := 1#32
  let v218 : BitVec 32 := Scalar.muli v217 c1_i32_169
  let v219 : BitVec 32 := Scalar.addi c0_i32_170 v218
  v219.toNat
def k0_dev34 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_175 : BitVec 32 := 3#32
  let v228 : BitVec 32 := Scalar.addi v2 c3_i32_175
  let c32_i32_176 : BitVec 32 := 32#32
  let v229 : BitVec 32 := Scalar.remsi v228 c32_i32_176
  let c1_i32_181 : BitVec 32 := 1#32
  let v230 : BitVec 32 := Scalar.muli v229 c1_i32_181
  let v231 : BitVec 32 := Scalar.addi c0_i32_182 v230
  v231.toNat
def k0_dev35 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_187 : BitVec 32 := 4#32
  let v240 : BitVec 32 := Scalar.addi v2 c4_i32_187
  let c32_i32_188 : BitVec 32 := 32#32
  let v241 : BitVec 32 := Scalar.remsi v240 c32_i32_188
  let c1_i32_193 : BitVec 32 := 1#32
  let v242 : BitVec 32 := Scalar.muli v241 c1_i32_193
  let v243 : BitVec 32 := Scalar.addi c0_i32_194 v242
  v243.toNat
def k0_dev36 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_199 : BitVec 32 := 5#32
  let v252 : BitVec 32 := Scalar.addi v2 c5_i32_199
  let c32_i32_200 : BitVec 32 := 32#32
  let v253 : BitVec 32 := Scalar.remsi v252 c32_i32_200
  let c1_i32_205 : BitVec 32 := 1#32
  let v254 : BitVec 32 := Scalar.muli v253 c1_i32_205
  let v255 : BitVec 32 := Scalar.addi c0_i32_206 v254
  v255.toNat
def k0_dev37 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_211 : BitVec 32 := 6#32
  let v264 : BitVec 32 := Scalar.addi v2 c6_i32_211
  let c32_i32_212 : BitVec 32 := 32#32
  let v265 : BitVec 32 := Scalar.remsi v264 c32_i32_212
  let c1_i32_217 : BitVec 32 := 1#32
  let v266 : BitVec 32 := Scalar.muli v265 c1_i32_217
  let v267 : BitVec 32 := Scalar.addi c0_i32_218 v266
  v267.toNat
def k0_dev38 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_223 : BitVec 32 := 7#32
  let v276 : BitVec 32 := Scalar.addi v2 c7_i32_223
  let c32_i32_224 : BitVec 32 := 32#32
  let v277 : BitVec 32 := Scalar.remsi v276 c32_i32_224
  let c1_i32_229 : BitVec 32 := 1#32
  let v278 : BitVec 32 := Scalar.muli v277 c1_i32_229
  let v279 : BitVec 32 := Scalar.addi c0_i32_230 v278
  v279.toNat
def k0_dev39 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_235 : BitVec 32 := 8#32
  let v288 : BitVec 32 := Scalar.addi v2 c8_i32_235
  let c32_i32_236 : BitVec 32 := 32#32
  let v289 : BitVec 32 := Scalar.remsi v288 c32_i32_236
  let c1_i32_241 : BitVec 32 := 1#32
  let v290 : BitVec 32 := Scalar.muli v289 c1_i32_241
  let v291 : BitVec 32 := Scalar.addi c0_i32_242 v290
  v291.toNat
def k0_dev40 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_247 : BitVec 32 := 9#32
  let v300 : BitVec 32 := Scalar.addi v2 c9_i32_247
  let c32_i32_248 : BitVec 32 := 32#32
  let v301 : BitVec 32 := Scalar.remsi v300 c32_i32_248
  let c1_i32_253 : BitVec 32 := 1#32
  let v302 : BitVec 32 := Scalar.muli v301 c1_i32_253
  let v303 : BitVec 32 := Scalar.addi c0_i32_254 v302
  v303.toNat
def k0_dev41 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_259 : BitVec 32 := 10#32
  let v312 : BitVec 32 := Scalar.addi v2 c10_i32_259
  let c32_i32_260 : BitVec 32 := 32#32
  let v313 : BitVec 32 := Scalar.remsi v312 c32_i32_260
  let c1_i32_265 : BitVec 32 := 1#32
  let v314 : BitVec 32 := Scalar.muli v313 c1_i32_265
  let v315 : BitVec 32 := Scalar.addi c0_i32_266 v314
  v315.toNat
def k0_dev42 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_271 : BitVec 32 := 11#32
  let v324 : BitVec 32 := Scalar.addi v2 c11_i32_271
  let c32_i32_272 : BitVec 32 := 32#32
  let v325 : BitVec 32 := Scalar.remsi v324 c32_i32_272
  let c1_i32_277 : BitVec 32 := 1#32
  let v326 : BitVec 32 := Scalar.muli v325 c1_i32_277
  let v327 : BitVec 32 := Scalar.addi c0_i32_278 v326
  v327.toNat
def k0_dev43 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_283 : BitVec 32 := 12#32
  let v336 : BitVec 32 := Scalar.addi v2 c12_i32_283
  let c32_i32_284 : BitVec 32 := 32#32
  let v337 : BitVec 32 := Scalar.remsi v336 c32_i32_284
  let c1_i32_289 : BitVec 32 := 1#32
  let v338 : BitVec 32 := Scalar.muli v337 c1_i32_289
  let v339 : BitVec 32 := Scalar.addi c0_i32_290 v338
  v339.toNat
def k0_dev44 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_295 : BitVec 32 := 13#32
  let v348 : BitVec 32 := Scalar.addi v2 c13_i32_295
  let c32_i32_296 : BitVec 32 := 32#32
  let v349 : BitVec 32 := Scalar.remsi v348 c32_i32_296
  let c1_i32_301 : BitVec 32 := 1#32
  let v350 : BitVec 32 := Scalar.muli v349 c1_i32_301
  let v351 : BitVec 32 := Scalar.addi c0_i32_302 v350
  v351.toNat
def k0_dev45 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_307 : BitVec 32 := 14#32
  let v360 : BitVec 32 := Scalar.addi v2 c14_i32_307
  let c32_i32_308 : BitVec 32 := 32#32
  let v361 : BitVec 32 := Scalar.remsi v360 c32_i32_308
  let c1_i32_313 : BitVec 32 := 1#32
  let v362 : BitVec 32 := Scalar.muli v361 c1_i32_313
  let v363 : BitVec 32 := Scalar.addi c0_i32_314 v362
  v363.toNat
def k0_dev46 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_319 : BitVec 32 := 15#32
  let v372 : BitVec 32 := Scalar.addi v2 c15_i32_319
  let c32_i32_320 : BitVec 32 := 32#32
  let v373 : BitVec 32 := Scalar.remsi v372 c32_i32_320
  let c1_i32_325 : BitVec 32 := 1#32
  let v374 : BitVec 32 := Scalar.muli v373 c1_i32_325
  let v375 : BitVec 32 := Scalar.addi c0_i32_326 v374
  v375.toNat
def k0_dev47 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_331 : BitVec 32 := 16#32
  let v384 : BitVec 32 := Scalar.addi v2 c16_i32_331
  let c32_i32_332 : BitVec 32 := 32#32
  let v385 : BitVec 32 := Scalar.remsi v384 c32_i32_332
  let c1_i32_337 : BitVec 32 := 1#32
  let v386 : BitVec 32 := Scalar.muli v385 c1_i32_337
  let v387 : BitVec 32 := Scalar.addi c0_i32_338 v386
  v387.toNat
def k0_dev48 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_343 : BitVec 32 := 17#32
  let v396 : BitVec 32 := Scalar.addi v2 c17_i32_343
  let c32_i32_344 : BitVec 32 := 32#32
  let v397 : BitVec 32 := Scalar.remsi v396 c32_i32_344
  let c1_i32_349 : BitVec 32 := 1#32
  let v398 : BitVec 32 := Scalar.muli v397 c1_i32_349
  let v399 : BitVec 32 := Scalar.addi c0_i32_350 v398
  v399.toNat
def k0_dev49 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_355 : BitVec 32 := 18#32
  let v408 : BitVec 32 := Scalar.addi v2 c18_i32_355
  let c32_i32_356 : BitVec 32 := 32#32
  let v409 : BitVec 32 := Scalar.remsi v408 c32_i32_356
  let c1_i32_361 : BitVec 32 := 1#32
  let v410 : BitVec 32 := Scalar.muli v409 c1_i32_361
  let v411 : BitVec 32 := Scalar.addi c0_i32_362 v410
  v411.toNat
def k0_dev50 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_367 : BitVec 32 := 19#32
  let v420 : BitVec 32 := Scalar.addi v2 c19_i32_367
  let c32_i32_368 : BitVec 32 := 32#32
  let v421 : BitVec 32 := Scalar.remsi v420 c32_i32_368
  let c1_i32_373 : BitVec 32 := 1#32
  let v422 : BitVec 32 := Scalar.muli v421 c1_i32_373
  let v423 : BitVec 32 := Scalar.addi c0_i32_374 v422
  v423.toNat
def k0_dev51 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_379 : BitVec 32 := 20#32
  let v432 : BitVec 32 := Scalar.addi v2 c20_i32_379
  let c32_i32_380 : BitVec 32 := 32#32
  let v433 : BitVec 32 := Scalar.remsi v432 c32_i32_380
  let c1_i32_385 : BitVec 32 := 1#32
  let v434 : BitVec 32 := Scalar.muli v433 c1_i32_385
  let v435 : BitVec 32 := Scalar.addi c0_i32_386 v434
  v435.toNat
def k0_dev52 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_391 : BitVec 32 := 21#32
  let v444 : BitVec 32 := Scalar.addi v2 c21_i32_391
  let c32_i32_392 : BitVec 32 := 32#32
  let v445 : BitVec 32 := Scalar.remsi v444 c32_i32_392
  let c1_i32_397 : BitVec 32 := 1#32
  let v446 : BitVec 32 := Scalar.muli v445 c1_i32_397
  let v447 : BitVec 32 := Scalar.addi c0_i32_398 v446
  v447.toNat
def k0_dev53 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_403 : BitVec 32 := 22#32
  let v456 : BitVec 32 := Scalar.addi v2 c22_i32_403
  let c32_i32_404 : BitVec 32 := 32#32
  let v457 : BitVec 32 := Scalar.remsi v456 c32_i32_404
  let c1_i32_409 : BitVec 32 := 1#32
  let v458 : BitVec 32 := Scalar.muli v457 c1_i32_409
  let v459 : BitVec 32 := Scalar.addi c0_i32_410 v458
  v459.toNat
def k0_dev54 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_415 : BitVec 32 := 23#32
  let v468 : BitVec 32 := Scalar.addi v2 c23_i32_415
  let c32_i32_416 : BitVec 32 := 32#32
  let v469 : BitVec 32 := Scalar.remsi v468 c32_i32_416
  let c1_i32_421 : BitVec 32 := 1#32
  let v470 : BitVec 32 := Scalar.muli v469 c1_i32_421
  let v471 : BitVec 32 := Scalar.addi c0_i32_422 v470
  v471.toNat
def k0_dev55 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_427 : BitVec 32 := 24#32
  let v480 : BitVec 32 := Scalar.addi v2 c24_i32_427
  let c32_i32_428 : BitVec 32 := 32#32
  let v481 : BitVec 32 := Scalar.remsi v480 c32_i32_428
  let c1_i32_433 : BitVec 32 := 1#32
  let v482 : BitVec 32 := Scalar.muli v481 c1_i32_433
  let v483 : BitVec 32 := Scalar.addi c0_i32_434 v482
  v483.toNat
def k0_dev56 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_439 : BitVec 32 := 25#32
  let v492 : BitVec 32 := Scalar.addi v2 c25_i32_439
  let c32_i32_440 : BitVec 32 := 32#32
  let v493 : BitVec 32 := Scalar.remsi v492 c32_i32_440
  let c1_i32_445 : BitVec 32 := 1#32
  let v494 : BitVec 32 := Scalar.muli v493 c1_i32_445
  let v495 : BitVec 32 := Scalar.addi c0_i32_446 v494
  v495.toNat
def k0_dev57 (d0 : Dev nD) : Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_451 : BitVec 32 := 26#32
  let v504 : BitVec 32 := Scalar.addi v2 c26_i32_451
  let c32_i32_452 : BitVec 32 := 32#32
  let v505 : BitVec 32 := Scalar.remsi v504 c32_i32_452
  let c1_i32_457 : BitVec 32 := 1#32
  let v506 : BitVec 32 := Scalar.muli v505 c1_i32_457
  let v507 : BitVec 32 := Scalar.addi c0_i32_458 v506
  v507.toNat
def k0_dev58 (d0 : Dev nD) : Nat :=
  let c0_i32_470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_463 : BitVec 32 := 27#32
  let v516 : BitVec 32 := Scalar.addi v2 c27_i32_463
  let c32_i32_464 : BitVec 32 := 32#32
  let v517 : BitVec 32 := Scalar.remsi v516 c32_i32_464
  let c1_i32_469 : BitVec 32 := 1#32
  let v518 : BitVec 32 := Scalar.muli v517 c1_i32_469
  let v519 : BitVec 32 := Scalar.addi c0_i32_470 v518
  v519.toNat
def k0_dev59 (d0 : Dev nD) : Nat :=
  let c0_i32_482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_475 : BitVec 32 := 28#32
  let v528 : BitVec 32 := Scalar.addi v2 c28_i32_475
  let c32_i32_476 : BitVec 32 := 32#32
  let v529 : BitVec 32 := Scalar.remsi v528 c32_i32_476
  let c1_i32_481 : BitVec 32 := 1#32
  let v530 : BitVec 32 := Scalar.muli v529 c1_i32_481
  let v531 : BitVec 32 := Scalar.addi c0_i32_482 v530
  v531.toNat
def k0_dev60 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_487 : BitVec 32 := 29#32
  let v540 : BitVec 32 := Scalar.addi v2 c29_i32_487
  let c32_i32_488 : BitVec 32 := 32#32
  let v541 : BitVec 32 := Scalar.remsi v540 c32_i32_488
  let c1_i32_493 : BitVec 32 := 1#32
  let v542 : BitVec 32 := Scalar.muli v541 c1_i32_493
  let v543 : BitVec 32 := Scalar.addi c0_i32_494 v542
  v543.toNat
def k0_dev61 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_499 : BitVec 32 := 30#32
  let v552 : BitVec 32 := Scalar.addi v2 c30_i32_499
  let c32_i32_500 : BitVec 32 := 32#32
  let v553 : BitVec 32 := Scalar.remsi v552 c32_i32_500
  let c1_i32_505 : BitVec 32 := 1#32
  let v554 : BitVec 32 := Scalar.muli v553 c1_i32_505
  let v555 : BitVec 32 := Scalar.addi c0_i32_506 v554
  v555.toNat
def k0_dev62 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_511 : BitVec 32 := 31#32
  let v564 : BitVec 32 := Scalar.addi v2 c31_i32_511
  let c32_i32_512 : BitVec 32 := 32#32
  let v565 : BitVec 32 := Scalar.remsi v564 c32_i32_512
  let c1_i32_517 : BitVec 32 := 1#32
  let v566 : BitVec 32 := Scalar.muli v565 c1_i32_517
  let v567 : BitVec 32 := Scalar.addi c0_i32_518 v566
  v567.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S512 : Shape := ⟨1, ![512]⟩
abbrev S512x512 : Shape := ⟨2, ![512, 512]⟩
abbrev S1x512 : Shape := ⟨2, ![1, 512]⟩
abbrev S_ : Shape := ⟨0, ![]⟩
abbrev S512x256x512 : Shape := ⟨3, ![512, 256, 512]⟩

abbrev nBuf : Space → Nat
  | .hbm => 29
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S64x256x512, .f32⟩
  | .hbm, ⟨4, _⟩ => ⟨S512, .i32⟩
  | .hbm, ⟨5, _⟩ => ⟨S512x512, .i32⟩
  | .hbm, ⟨6, _⟩ => ⟨S512x512, .i32⟩
  | .hbm, ⟨7, _⟩ => ⟨S512x1, .i32⟩
  | .hbm, ⟨8, _⟩ => ⟨S1x512, .i32⟩
  | .hbm, ⟨9, _⟩ => ⟨S512x512, .i32⟩
  | .hbm, ⟨10, _⟩ => ⟨S512x512, .i32⟩
  | .hbm, ⟨11, _⟩ => ⟨S512x512, .i1⟩
  | .hbm, ⟨12, _⟩ => ⟨S512x512, .i1⟩
  | .hbm, ⟨13, _⟩ => ⟨S512x512, .i1⟩
  | .hbm, ⟨14, _⟩ => ⟨S512x512, .i32⟩
  | .hbm, ⟨15, _⟩ => ⟨S_, .i32⟩
  | .hbm, ⟨16, _⟩ => ⟨S512, .i32⟩
  | .hbm, ⟨17, _⟩ => ⟨S512x1, .i32⟩
  | .hbm, ⟨18, _⟩ => ⟨S512x256x512, .f32⟩
  | .hbm, ⟨19, _⟩ => ⟨S512x512, .f32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512x1, .i1⟩
  | .hbm, ⟨24, _⟩ => ⟨S_, .f32⟩
  | .hbm, ⟨25, _⟩ => ⟨S_, .f32⟩
  | .hbm, ⟨26, _⟩ => ⟨S512x512, .i1⟩
  | .hbm, ⟨27, _⟩ => ⟨S512x512, .f32⟩
  | .hbm, ⟨28, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proof.Loops.lean ====
/-
  The kernel's body as LOOPS. The traced program is one flat sequence: 31 barrier signals, the block's computation, one
  barrier wait, 31 remote copies, 31 waits for what the other devices send, the final product, 31 waits for the copies
  this device started. Each of the four sequences is one program recursion over the list of the 31 distances, and the
  printed body is their composition by computation (`body_eq`); what follows reasons about each loop by induction.
-/
module

public import proofs.«01_k».proof.Defs
public import proofs.«01_k».proof.Proof.Gen.KernelIdeal
public import proofs.«01_k».proof.Proof.Gen.KernelIdeal.Skeleton

@[expose] public section

noncomputable section

namespace Cert.KernelIdeal.Pf

open Cert.KernelIdeal Cert.KernelIdeal.Gen
open Idealize.ShloMosaic Idealize.SL.Sem

variable {F : FTy → Type} [FloatOps F]

/-- The programs of the kernel's body. -/
abbrev BodyProg (F : FTy → Type) : Type 1 := Prog (TpuEff nD τ sig (Elt F) Λ₀ .tc) PUnit

/-- The 31 distances, less one: position `k` stands for distance `k + 1`. -/
def steps : List (Fin 31) := [0, 1, 2, 3, 4, 5, 6, 7, 8, 9, 10, 11, 12, 13, 14, 15, 16, 17, 18, 19, 20, 21, 22, 23, 24,
  25, 26, 27, 28, 29, 30]

/-- The device the `k`-th barrier signal goes to, as the program computes it. -/
def sigDev (c : Dev nD) : Fin 31 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩, ⟨k0_dev16 c, k0_dev16_lt c⟩,
    ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩,
    ⟨k0_dev25 c, k0_dev25_lt c⟩, ⟨k0_dev26 c, k0_dev26_lt c⟩, ⟨k0_dev27 c, k0_dev27_lt c⟩, ⟨k0_dev28 c, k0_dev28_lt c⟩,
    ⟨k0_dev29 c, k0_dev29_lt c⟩, ⟨k0_dev30 c, k0_dev30_lt c⟩, ⟨k0_dev31 c, k0_dev31_lt c⟩]

/-- The device the `k`-th remote copy goes to, as the program computes it. -/
def sendDev (c : Dev nD) : Fin 31 → Dev nD :=
  ![⟨k0_dev32 c, k0_dev32_lt c⟩, ⟨k0_dev33 c, k0_dev33_lt c⟩, ⟨k0_dev34 c, k0_dev34_lt c⟩, ⟨k0_dev35 c, k0_dev35_lt c⟩,
    ⟨k0_dev36 c, k0_dev36_lt c⟩, ⟨k0_dev37 c, k0_dev37_lt c⟩, ⟨k0_dev38 c, k0_dev38_lt c⟩, ⟨k0_dev39 c, k0_dev39_lt c⟩,
    ⟨k0_dev40 c, k0_dev40_lt c⟩, ⟨k0_dev41 c, k0_dev41_lt c⟩, ⟨k0_dev42 c, k0_dev42_lt c⟩, ⟨k0_dev43 c, k0_dev43_lt c⟩,
    ⟨k0_dev44 c, k0_dev44_lt c⟩, ⟨k0_dev45 c, k0_dev45_lt c⟩, ⟨k0_dev46 c, k0_dev46_lt c⟩, ⟨k0_dev47 c, k0_dev47_lt c⟩,
    ⟨k0_dev48 c, k0_dev48_lt c⟩, ⟨k0_dev49 c, k0_dev49_lt c⟩, ⟨k0_dev50 c, k0_dev50_lt c⟩, ⟨k0_dev51 c, k0_dev51_lt c⟩,
    ⟨k0_dev52 c, k0_dev52_lt c⟩, ⟨k0_dev53 c, k0_dev53_lt c⟩, ⟨k0_dev54 c, k0_dev54_lt c⟩, ⟨k0_dev55 c, k0_dev55_lt c⟩,
    ⟨k0_dev56 c, k0_dev56_lt c⟩, ⟨k0_dev57 c, k0_dev57_lt c⟩, ⟨k0_dev58 c, k0_dev58_lt c⟩, ⟨k0_dev59 c, k0_dev59_lt c⟩,
    ⟨k0_dev60 c, k0_dev60_lt c⟩, ⟨k0_dev61 c, k0_dev61_lt c⟩, ⟨k0_dev62 c, k0_dev62_lt c⟩]

/-- Device `c`'s partner at distance `k + 1` around the 32 devices. -/
def peer (c : Dev nD) (k : Fin 31) : Dev nD := ⟨(c.val + (k.val + 1)) % 32, Nat.mod_lt _ (by decide)⟩

/-- The program's signal targets are the partners, -/
theorem sigDev_eq (c : Dev nD) (k : Fin 31) : sigDev c k = peer c k := by
  revert c k; decide +kernel

/-- and so are its copies' targets. -/
theorem sendDev_eq (c : Dev nD) (k : Fin 31) : sendDev c k = peer c k := by
  revert c k; decide +kernel

/-! ## Slots of the communication buffer and semaphores, by position -/

/-- Slot `s` lies inside the communication buffer, -/
theorem slot_inb (s : Fin 32) : ∀ a, (![s.val, 0, 0] : Fin 3 → Nat) a + S1x12x512.size a ≤ S32x12x512.size a := by
  revert s; decide

/-- the rectangle of slot `s`, -/
abbrev slotRect (s : Fin 32) : Rect S32x12x512 := Rect.unit (s := S32x12x512) ![s.val, 0, 0] S1x12x512.size (slot_inb s)

/-- which consists of whole memory words. -/
theorem slot_words (s : Fin 32) : (slotRect s).WholeWords (EltTy.packing .bf16) := by
  revert s; decide

/-- Slot `s` of the communication buffer, as a 12-row view. -/
def slot (arg4 : Memref sig .tc .vmem S32x12x512 .bf16) (s : Fin 32) : Memref sig .tc .vmem S12x512 .bf16 :=
  (arg4.slice (slotRect s) (fun _ => rfl)).squeeze S12x512 squeezes_S1x12x512_S12x512

theorem slot_exact {arg4 : Memref sig .tc .vmem S32x12x512 .bf16} (harg4 : arg4.IsWhole) (s : Fin 32) :
    (slot arg4 s).view.WordExact := (harg4.wordExact_slice rfl _ (slot_words s)).reshape _ _

/-- Position `k` lies inside a semaphore array, -/
theorem sem_inb (k : Fin 31) : ∀ a, (![k.val] : Fin 1 → Nat) a + S1.size a ≤ S31.size a := by
  revert k; decide

/-- and the semaphore there. -/
def semAt (arg : DmaSems sig S31) (k : Fin 31) : DmaSem sig :=
  ((arg.slice (Rect.unit (s := S31) ![k.val] S1.size (sem_inb k))).squeeze S_ squeezes_S1_S_).sem

/-- The barrier semaphore. -/
def barSem : Sem sig := (SemArray.scalar (sig.barrier 0 rfl) : Sems sig S_).sem

/-! ## The loops -/

/-- One barrier signal to each device of the list, then `k`. -/
def signals (c : Dev nD) : List (Fin 31) → BodyProg F → BodyProg F
  | [], k => k
  | d :: ds, k => Prog.op (.semSignal (sigDev c d, .tc) barSem (1#32).toInt) fun _ => signals c ds k

variable (arg4 : Memref sig .tc .vmem S32x12x512 .bf16) (harg4 : arg4.IsWhole) (arg5 arg6 : DmaSems sig S31)

/-- One remote copy of slot 0 to each device of the list, then `k`. -/
def sends (c : Dev nD) : List (Fin 31) → BodyProg F → BodyProg F
  | [], k => k
  | d :: ds, k =>
    Prog.op (.enqueueDma (slot arg4 0) (.remote (Dev.tc (sendDev c d)) (slot arg4 d.succ) (.dma (semAt arg5 d)))
      (.dma (semAt arg6 d)) (slot_exact harg4 0) (slot_exact harg4 d.succ) ⟨⟨rfl, Or.inl rfl⟩, trivial⟩)
      fun _ => sends c ds k

/-- One wait for each block the listed partners send, then `k`. -/
def recvs : List (Fin 31) → BodyProg F → BodyProg F
  | [], k => k
  | d :: ds, k =>
    Prog.op (.waitDma2 (semAt arg6 d) (slot arg4 0) (slot arg4 d.succ) (slot_exact harg4 0) (slot_exact harg4 d.succ))
      fun _ => recvs ds k

/-- One wait for each copy this device started, then `k`. -/
def drains : List (Fin 31) → BodyProg F → BodyProg F
  | [], k => k
  | d :: ds, k =>
    Prog.op (.waitDma2 (semAt arg5 d) (slot arg4 d.succ) (slot arg4 0) (slot_exact harg4 d.succ) (slot_exact harg4 0))
      fun _ => drains ds k

/-! ## The whole body -/

/-- The values stored to slot 0: the block this device computes from its inputs. -/
def blockOf (c : Dev nD) (idx : Vec F S512x1 .i32) (x : Vec F S512x256 .f32) (w0 w1 : Vec F S1x256x512 .f32) :
    FVec F S1x12x512 .bf16 :=
  k0_pay9 (k0_pay6 (Scalar.remsi (Scalar.divsi (Dev.word c) 1#32) 32#32) idx) (k0_pay7 idx) k0_pay8 x w0 w1

/-- The one-hot matrix that picks each token's row out of the gathered blocks. -/
def pickOf (c : Dev nD) (idx : Vec F S512x1 .i32) : FVec F S512x384 .bf16 :=
  k0_pay11 (F := F) (iota .tc S512x384 32 [1] iota_S512x384_d1_w32)
    (k0_pay10 (Scalar.remsi (Scalar.divsi (Dev.word c) 1#32) 32#32) (k0_pay2 idx) (k0_pay3 idx) (k0_pay4 idx) (k0_pay5 idx))

/-- The body, with its four sequences as loops. -/
def loopBody (arg0 : Memref sig .tc .vmem S512x256 .f32) (arg1 : Memref sig .tc .vmem S512x1 .i32)
    (arg2 : Memref sig .tc .vmem S2x256x512 .f32) (arg3 : Memref sig .tc .vmem S512x512 .f32) : BodyProg F :=
  Prog.op .deviceId fun c => signals c steps <|
  Prog.op (.load arg1 (Rect.unit (s := S512x1) ![0, 0] S512x1.size inb_S512x1_S512x1_0_0).toLoadRect (View.loadsAt_vmem h_S512x1)) fun idx =>
  Prog.op (.load arg0 (Rect.unit (s := S512x256) ![0, 0] S512x256.size inb_S512x256_S512x256_0_0).toLoadRect (View.loadsAt_vmem h_S512x256)) fun x =>
  Prog.op (.load arg2 (Rect.unit (s := S2x256x512) ![0, 0, 0] S1x256x512.size inb_S2x256x512_S1x256x512_0_0_0).toLoadRect (View.loadsAt_vmem h_S1x256x512)) fun w0 =>
  Prog.op (.load arg2 (Rect.unit (s := S2x256x512) ![1, 0, 0] S1x256x512.size inb_S2x256x512_S1x256x512_1_0_0).toLoadRect (View.loadsAt_vmem h_S1x256x512)) fun w1 =>
  Prog.op (.load arg4 (Rect.unit (s := S32x12x512) ![0, 0, 0] S1x12x512.size inb_S32x12x512_S1x12x512_0_0_0).toLoadRect (View.loadsAt_vmem h_S1x12x512)) fun _ =>
  Prog.op (.store arg4 (Rect.unit (s := S32x12x512) ![0, 0, 0] S1x12x512.size inb_S32x12x512_S1x12x512_0_0_0) (blockOf c idx x w0 w1) Finset.univ (View.stores_vmem h_S1x12x512 (harg4.storeExact_slice rfl _ packedbf16_S32x12x512_S1x12x512_0_0_0) (fun _ => rfl)) (.inl rfl)) fun _ =>
  Prog.op (.semWait barSem (31#32).toInt) fun _ =>
  sends arg4 harg4 arg5 arg6 c steps <|
  recvs arg4 harg4 arg6 steps <|
  Prog.op (.load arg4 (Rect.unit (s := S32x12x512) ![0, 0, 0] S32x12x512.size inb_S32x12x512_S32x12x512_0_0_0).toLoadRect (View.loadsAt_vmem h_S32x12x512)) fun comm =>
  Prog.op (.load arg3 (Rect.unit (s := S512x512) ![0, 0] S512x512.size inb_S512x512_S512x512_0_0).toLoadRect (View.loadsAt_vmem h_S512x512)) fun _ =>
  Prog.op (.store arg3 (Rect.unit (s := S512x512) ![0, 0] S512x512.size inb_S512x512_S512x512_0_0) (k0_pay12 (pickOf c idx) comm) Finset.univ (View.stores_vmem_bits_univ h_S512x512 rfl) (.inl rfl)) fun _ =>
  drains arg4 harg4 arg5 steps (Prog.ret ⟨⟩)

set_option maxRecDepth 65536 in
/-- The printed body is the composition of its loops. -/
theorem body_eq (arg0 : Memref sig .tc .vmem S512x256 .f32) (harg0 : arg0.IsWhole)
    (arg1 : Memref sig .tc .vmem S512x1 .i32) (harg1 : arg1.IsWhole)
    (arg2 : Memref sig .tc .vmem S2x256x512 .f32) (harg2 : arg2.IsWhole)
    (arg3 : Memref sig .tc .vmem S512x512 .f32) (harg3 : arg3.IsWhole) :
    cc0_body (F := F) arg0 harg0 arg1 harg1 arg2 harg2 arg3 harg3 arg4 harg4 arg5 arg6
      = loopBody arg4 harg4 arg5 arg6 arg0 arg1 arg2 arg3 := rfl

end Cert.KernelIdeal.Pf

end
-- ==== Proof.Comm.lean ====
/-
  The communication buffer: which elements each of its 32 slots covers, and what the buffer holds once every device's
  block has arrived (`gath`): slot `s` of device `c` holds the block of the device `s` places before `c`.
-/
module

public import proofs.«01_k».proof.Proof.Loops
public import Idealize.ShloMosaic.Lib.Transfers
public import Idealize.ShloMosaic.Lib.Tactic

@[expose] public section

noncomputable section

namespace Cert.KernelIdeal.Pf

open Cert.KernelIdeal Cert.KernelIdeal.Gen
open Idealize.ShloMosaic Idealize.ShloMosaic.TcCoe Idealize.SL.Sem

variable {F : FTy → Type} [FloatOps F]

/-- The communication buffer, whole. -/
abbrev commM : Memref sig .tc .vmem S32x12x512 .bf16 := Memref.whole cc0_scratch0
theorem commM_whole : (commM).IsWhole := Memref.isWhole_whole _

/-- The elements of slot `s`. -/
abbrev slotSet (s : Fin 32) : Finset S32x12x512.Idx := (slot commM s).view.set

/-- Entry `j` of slot `s`, as an element of the buffer. -/
def slotElt (s : Fin 32) (j : S1x12x512.Idx) : S32x12x512.Idx := (slotRect s).emb j

theorem slotElt_0 (s : Fin 32) (j : S1x12x512.Idx) : (slotElt s j 0).val = s.val := by
  have h0 : (j 0).val < 1 := (j 0).isLt
  show s.val + 1 * (j 0).val = s.val
  omega
theorem slotElt_1 (s : Fin 32) (j : S1x12x512.Idx) : (slotElt s j 1).val = (j 1).val := by
  show 0 + 1 * (j 1).val = (j 1).val
  omega
theorem slotElt_2 (s : Fin 32) (j : S1x12x512.Idx) : (slotElt s j 2).val = (j 2).val := by
  show 0 + 1 * (j 2).val = (j 2).val
  omega

/-- Row and column of an element of the buffer, within its slot. -/
def inSlot (i : S32x12x512.Idx) : S1x12x512.Idx := fun a => match a with | 0 => ⟨0, Nat.one_pos⟩ | 1 => i 1 | 2 => i 2

theorem slotElt_inSlot (s : Fin 32) (i : S32x12x512.Idx) (h : (i 0).val = s.val) : slotElt s (inSlot i) = i := by
  funext a
  refine Fin.ext ?_
  fin_cases a
  · exact (slotElt_0 s _).trans h.symm
  · exact slotElt_1 s _
  · exact slotElt_2 s _

theorem inSlot_slotElt (s : Fin 32) (j : S1x12x512.Idx) : inSlot (slotElt s j) = j := by
  funext a
  refine Fin.ext ?_
  fin_cases a
  · have h0 : (j 0).val < 1 := (j 0).isLt
    show 0 = (j 0).val
    omega
  · exact slotElt_1 s _
  · exact slotElt_2 s _

/-- The view of a slot reads the slot's entries, at the same place in every slot. -/
theorem slot_emb (x : S12x512.Idx) : ∃ j : S1x12x512.Idx, ∀ s : Fin 32, (slot commM s).view.emb x = slotElt s j :=
  ⟨Shape.reshapeEquiv (squeezes_S1x12x512_S12x512).numel_eq x, fun _ => rfl⟩

/-- The elements of a slot are those of its rectangle. -/
theorem slotSet_eq (s : Fin 32) : slotSet s = (slotRect s).set := by
  show (((commM).view.slice (slotRect s)).reshape S12x512 (squeezes_S1x12x512_S12x512).numel_eq).set = _
  exact (View.set_reshape _ _).trans (View.set_slice_whole _ _)

/-- An element of the communication buffer lies in the slot its first coordinate names. -/
theorem mem_slotSet (s : Fin 32) (i : S32x12x512.Idx) : i ∈ slotSet s ↔ (i 0).val = s.val := by
  constructor
  · intro hi
    obtain ⟨x, -, rfl⟩ := Finset.mem_map.mp hi
    obtain ⟨j, hj⟩ := slot_emb x
    exact (congrArg (fun i : S32x12x512.Idx => (i 0).val) (hj s)).trans (slotElt_0 s j)
  · intro hi
    rw [slotSet_eq, ← slotElt_inSlot s i hi]
    exact (slotRect s).toLoadRect.mem_set.mpr fun a => ⟨(inSlot i a).val, (inSlot i a).isLt, rfl⟩

/-- Different slots share no element, -/
theorem slot_disjoint (s t : Fin 32) (h : s ≠ t) : Disjoint (slotSet s) (slotSet t) :=
  Finset.disjoint_left.mpr fun i hs ht => h (Fin.ext (((mem_slotSet s i).mp hs).symm.trans ((mem_slotSet t i).mp ht)))

/-- and together they are the buffer. -/
theorem slot_cover : (Finset.univ : Finset (Fin 32)).biUnion slotSet = Finset.univ :=
  Finset.eq_univ_iff_forall.mpr fun i =>
    Finset.mem_biUnion.mpr ⟨⟨(i 0).val, (i 0).isLt⟩, Finset.mem_univ _, (mem_slotSet _ i).mpr rfl⟩

/-! ## Contents -/

/-- The device whose block slot `s` of device `c` receives. -/
def srcOf (c : Dev nD) (s : Fin 32) : Dev nD := ⟨(c.val + (32 - s.val)) % 32, Nat.mod_lt _ (by decide)⟩

theorem srcOf_zero (c : Dev nD) : srcOf c 0 = c := by revert c; decide
theorem srcOf_peer (c : Dev nD) (d : Fin 31) : srcOf (peer c d) d.succ = c := by revert c d; decide +kernel

/-- The gathered buffer of device `c`, given every device's block. -/
def gath (blk : Dev nD → FVec F S1x12x512 .bf16) (c : Dev nD) : (cc0_scratch0 : Ref sig .tc).ty.Contents (Elt F) :=
  fun i => blk (srcOf c ⟨(i 0).val, (i 0).isLt⟩) (inSlot i)

omit [FloatOps F] in
theorem gath_slotElt (blk : Dev nD → FVec F S1x12x512 .bf16) (c : Dev nD) (s : Fin 32) (j : S1x12x512.Idx) :
    gath blk c (slotElt s j) = blk (srcOf c s) j := by
  have h : (⟨(slotElt s j 0).val, (slotElt s j 0).isLt⟩ : Fin 32) = s := Fin.ext (slotElt_0 s j)
  unfold gath
  rw [inSlot_slotElt]
  exact congrArg (fun t => blk (srcOf c t) j) h

omit [FloatOps F] in
/-- What a copy of slot 0 of `c` lands in slot `d + 1` of the partner `d` is what that slot is to hold. -/
theorem landed_eq (blk : Dev nD → FVec F S1x12x512 .bf16) (c : Dev nD) (d : Fin 31)
    (fd : (cc0_scratch0 : Ref sig .tc).ty.Contents (Elt F)) (i : S32x12x512.Idx) (hi : i ∈ slotSet d.succ) :
    (slot commM d.succ).view.write (Elt F) fd ((slot commM 0).view.read (Elt F) (gath blk c)) Finset.univ i
      = gath blk (peer c d) i := by
  obtain ⟨x, -, rfl⟩ := Finset.mem_map.mp hi
  obtain ⟨j, hj⟩ := slot_emb x
  refine (View.write_emb_of_mem (v := (slot commM d.succ).view) _ _ (Finset.mem_univ x)).trans ?_
  show gath blk c ((slot commM 0).view.emb x) = gath blk (peer c d) ((slot commM d.succ).view.emb x)
  refine (congrArg (gath blk c) (hj 0)).trans (Eq.trans ?_ (congrArg (gath blk (peer c d)) (hj d.succ)).symm)
  rw [gath_slotElt, gath_slotElt, srcOf_zero, srcOf_peer]

omit [FloatOps F] in
/-- The block a device stores to its slot 0 is what its gathered buffer holds there. -/
theorem stored_eq (blk : Dev nD → FVec F S1x12x512 .bf16) (c : Dev nD)
    (f : (cc0_scratch0 : Ref sig .tc).ty.Contents (Elt F)) (i : S32x12x512.Idx) (hi : i ∈ slotSet 0) :
    ((commM).access (slotRect 0) : View sig .tc _ _ _).write (Elt F) f (blk c) Finset.univ i = gath blk c i := by
  rw [← slotElt_inSlot 0 i ((mem_slotSet 0 i).mp hi), gath_slotElt, srcOf_zero]
  exact View.write_emb_of_mem (v := (commM).access (slotRect 0)) _ _ (Finset.mem_univ (inSlot i))

end Cert.KernelIdeal.Pf

end
-- ==== Proof.Protocol.lean ====
/-
  The protocol of the all-to-all exchange. Every device has one barrier cell, 31 send cells and 31 receive cells, each
  used for one round. The barrier signal of device `c` to its partner hands the partner the slot of `c`'s buffer that the
  partner will write; a copy's landing hands the receiver that slot, filled; its completion hands the sender back the
  share of slot 0 it read.
-/
module

public import proofs.«01_k».proof.Proof.Comm
public import proofs.«01_k».proof.Proof.Gen.KernelIdeal.Launch
public import Idealize.ShloMosaic.Lib.Pipeline.Launch
public import Idealize.ShloMosaic.Lib.Pipeline.BigSepL
public import Idealize.ShloMosaic.Lib.Tactic

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-! ## The resource algebra: the pipeline's copy and this kernel's (a duty is named by a position) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partners -/

/-- The partner at the complementary distance is the way back. -/
theorem peer_rev (c : Dev nD) (d : Fin 31) : peer (peer c d) d.rev = c := by revert c d; decide +kernel
theorem peer_rev' (c : Dev nD) (d : Fin 31) : peer (peer c d.rev) d = c := by revert c d; decide +kernel

/-- Going to the partner at a fixed distance permutes the devices. -/
def peerEquiv (d : Fin 31) : Dev nD ≃ Dev nD := ⟨fun c => peer c d, fun c => peer c d.rev, fun c => peer_rev c d, fun c => peer_rev' c d⟩

/-! ## The cells -/

abbrev sendS (k : Fin 31) : DmaSem sig := semAt cc0_scratch1 k
abbrev recvS (k : Fin 31) : DmaSem sig := semAt cc0_scratch2 k

abbrev barCell (c : Dev nD) : GSem nD τ sig := ((c : Thread nD τ), .reg barSem)
abbrev sendCell (c : Dev nD) (k : Fin 31) : GSem nD τ sig := ((c : Thread nD τ), .dma (sendS k))
abbrev recvCell (c : Dev nD) (k : Fin 31) : GSem nD τ sig := ((c : Thread nD τ), .dma (recvS k))

/-- What a semaphore is for. -/
inductive Role where
  | bar | send (k : Fin 31) | recv (k : Fin 31) | other
  deriving DecidableEq

/-- The scratch semaphores follow the four staging semaphores: 31 for sends, 31 for receives. -/
def role : SemLoc sig → Role
  | .reg s => if s = barSem then .bar else .other
  | .dma q =>
    if h : 4 ≤ q.val ∧ q.val < 35 then .send ⟨q.val - 4, by omega⟩
    else if h : 35 ≤ q.val ∧ q.val < 66 then .recv ⟨q.val - 35, by omega⟩
    else .other

theorem role_bar : role (.reg barSem) = .bar := by decide
theorem role_send (k : Fin 31) : role (.dma (sendS k)) = .send k := by revert k; decide +kernel
theorem role_recv (k : Fin 31) : role (.dma (recvS k)) = .recv k := by revert k; decide +kernel

/-- One slot's credit on a DMA semaphore. -/
abbrev N : ℕ := (slot commM 0).view.dmaCredit
theorem N_pos : 0 < N := View.dmaCredit_pos _ (by decide)

/-! ## Points-tos of the slots -/

/-- Share `q` of slot `s` of device `c`'s communication buffer, at contents `f`. -/
def slotPts (c : Dev nD) (s : Fin 32) (q : PosShare TreeShare) (f : (cc0_scratch0 : Ref sig .tc).ty.Contents (Elt F)) : sProp 𝕄 :=
  ((c : Thread nD τ).loc cc0_scratch0) ↦[slotSet s]{q} f

omit [FloatOps F] in
instance slotPts_storable (c : Dev nD) (s q f) : BI.Storable (upEmb : UEmb _ 𝕄) (slotPts (F := F) c s q f) := by
  unfold slotPts; infer_instance

/-! ## The schedule -/

variable (blk : Dev nD → FVec F S1x12x512 .bf16)

/-- The signal paying duty `d` of `b`'s barrier comes from `b`'s partner at position `d` and hands over the slot there
    that `b` writes. -/
def barPay (b : Dev nD) (d : Fin 31) : sProp 𝕄 := iprop(∃ f, slotPts (peer b d) d.succ fullShare f)
/-- The landing at position `k` hands over the slot, filled. -/
def recvPay (c : Dev nD) (k : Fin 31) : sProp 𝕄 := slotPts c k.succ fullShare (gath blk c)
/-- The completion of the copy at position `k` hands back its share of slot 0. -/
def sendPay (c : Dev nD) (k : Fin 31) : sProp 𝕄 := slotPts c 0 (shareTok fullShare 31 k) (gath blk c)

def dutiesOf : Role → Finset (Fin 31) | .bar => Finset.univ | .send _ => {0} | .recv _ => {0} | .other => ∅
def amountOfRole : Role → ℕ | .bar => 1 | _ => N
def payOf (c : Dev nD) (d : Fin 31) : Role → sProp 𝕄
  | .bar => barPay c d | .send k => sendPay blk c k | .recv k => recvPay blk c k | .other => iprop(emp)

/-- One round, round 0: a barrier cell has 31 duties of one unit, a send or receive cell one duty of a slot's credit. -/
def sched : Rounds.Schedule (GSem nD τ sig) (Fin 31) 𝕄 where
  duties g r := if r = 0 ∧ g.1.2 = .tc then dutiesOf (role g.2) else ∅
  unitless _ := False
  amount g _ _ := amountOfRole (role g.2)
  payload g _ d := payOf blk g.1.1 d (role g.2)
  amount_pos g _ _ _ := by
    cases role g.2
    · exact Nat.one_pos
    all_goals exact N_pos

omit [FloatOps F] in
instance sched_storable (g : GSem nD τ sig) (r : ℕ) (d : Fin 31) :
    BI.Storable (upEmb : UEmb _ 𝕄) ((sched (F := F) blk).payload g r d) := by
  show BI.Storable upEmb (payOf blk g.1.1 d (role g.2))
  cases role g.2 <;> unfold payOf <;> dsimp only
  · unfold barPay; infer_instance
  · unfold sendPay; infer_instance
  · unfold recvPay; infer_instance
  · infer_instance

section Sched
variable (c : Dev nD) (k : Fin 31)

omit [FloatOps F]

theorem duties_bar : (sched (F := F) blk).duties (barCell c) 0 = Finset.univ := by
  dsimp only [sched]; rw [if_pos ⟨rfl, rfl⟩, role_bar]; rfl
theorem duties_send : (sched (F := F) blk).duties (sendCell c k) 0 = {0} := by
  dsimp only [sched]; rw [if_pos ⟨rfl, rfl⟩, role_send]; rfl
theorem duties_recv : (sched (F := F) blk).duties (recvCell c k) 0 = {0} := by
  dsimp only [sched]; rw [if_pos ⟨rfl, rfl⟩, role_recv]; rfl
theorem duties_later (g : GSem nD τ sig) : ∀ r, 1 ≤ r → (sched (F := F) blk).duties g r = ∅ :=
  fun r hr => by dsimp only [sched]; exact if_neg fun h => by omega

theorem amount_bar (d : Fin 31) : (sched (F := F) blk).amount (barCell c) 0 d = 1 := by
  dsimp only [sched]; rw [role_bar]; rfl
theorem amount_send (d : Fin 31) : (sched (F := F) blk).amount (sendCell c k) 0 d = N := by
  dsimp only [sched]; rw [role_send]; rfl
theorem amount_recv (d : Fin 31) : (sched (F := F) blk).amount (recvCell c k) 0 d = N := by
  dsimp only [sched]; rw [role_recv]; rfl

theorem payload_bar (d : Fin 31) : (sched (F := F) blk).payload (barCell c) 0 d = barPay c d := by
  dsimp only [sched]; rw [role_bar]; rfl
theorem payload_send (d : Fin 31) : (sched (F := F) blk).payload (sendCell c k) 0 d = sendPay blk c k := by
  dsimp only [sched]; rw [role_send]; rfl
theorem payload_recv (d : Fin 31) : (sched (F := F) blk).payload (recvCell c k) 0 d = recvPay blk c k := by
  dsimp only [sched]; rw [role_recv]; rfl

theorem expect_bar : (sched (F := F) blk).expect (barCell c) 0 = 31 := by
  unfold Schedule.expect Schedule.amountOf
  rw [duties_bar, Finset.sum_congr rfl fun d _ => amount_bar blk c d, Finset.sum_const, Finset.card_univ, Fintype.card_fin, smul_eq_mul]
theorem expect_send : (sched (F := F) blk).expect (sendCell c k) 0 = N := by
  unfold Schedule.expect Schedule.amountOf; rw [duties_send, Finset.sum_singleton, amount_send]
theorem expect_recv : (sched (F := F) blk).expect (recvCell c k) 0 = N := by
  unfold Schedule.expect Schedule.amountOf; rw [duties_recv, Finset.sum_singleton, amount_recv]

theorem rest_bar : bigSep ((sched (F := F) blk).duties (barCell c) 0 \ ∅) (fun d => (sched (F := F) blk).payload (barCell c) 0 d)
    = bigSep Finset.univ fun d => barPay c d := by
  rw [Finset.sdiff_empty, duties_bar]; exact bigSep_congr fun d _ => payload_bar blk c d
theorem rest_send : bigSep ((sched (F := F) blk).duties (sendCell c k) 0 \ ∅) (fun d => (sched (F := F) blk).payload (sendCell c k) 0 d)
    = sendPay blk c k := by
  rw [Finset.sdiff_empty, duties_send, bigSep_singleton, payload_send]
theorem rest_recv : bigSep ((sched (F := F) blk).duties (recvCell c k) 0 \ ∅) (fun d => (sched (F := F) blk).payload (recvCell c k) 0 d)
    = recvPay blk c k := by
  rw [Finset.sdiff_empty, duties_recv, bigSep_singleton, payload_recv]

end Sched

/-! ## What each device owes; the levels -/

/-- The receive credits owed for the copies to the listed partners, -/
def oweR (c : Dev nD) : List (Fin 31) → CellTallies nD τ sig Unit
  | [] => 0
  | d :: ds => oweR c ds + tallyAt (recvCell (peer c d) d) () N
/-- and the barrier units owed to the listed partners on top of all the receive credits. -/
def oweB (c : Dev nD) : List (Fin 31) → CellTallies nD τ sig Unit
  | [] => oweR c steps
  | d :: ds => oweB c ds + tallyAt (barCell (peer c d)) () 1
/-- What a device owes at launch. -/
def O₀ (c : Dev nD) : CellTallies nD τ sig Unit := oweB c steps

def L (g : GSem nD τ sig) : Finset Unit := if g.1.2 = .tc then {()} else ∅
def levelOf : Role → ℕ | .bar => 1 | .recv _ => 2 | _ => 0
/-- Barrier cells at 1, receive cells at 2, everything else at 0. -/
def lv (g : GSem nD τ sig) (_ : Unit) : ℕ := levelOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]; rfl
theorem lv_send (c : Dev nD) (k : Fin 31) : lv (sendCell c k) () = 0 := by unfold lv; rw [role_send]; rfl
theorem lv_recv (c : Dev nD) (k : Fin 31) : lv (recvCell c k) () = 2 := by unfold lv; rw [role_recv]; rfl

theorem oweR_pos {c : Dev nD} {g : GSem nD τ sig} {u : Unit} : ∀ {ds : List (Fin 31)}, 0 < oweR c ds g u →
    ∃ b k, g = recvCell b k
  | [], h => absurd h (by simp [oweR])
  | d :: ds, h => by
    unfold oweR at h
    rw [Pi.add_apply, Finsupp.add_apply, tallyAt_apply] at h
    by_cases hg : g = recvCell (peer c d) d
    · exact ⟨_, _, hg⟩
    · rw [if_neg (fun h' => hg h'.1), Nat.add_zero] at h; exact oweR_pos h

theorem oweB_pos {c : Dev nD} {g : GSem nD τ sig} {u : Unit} : ∀ {ds : List (Fin 31)}, 0 < oweB c ds g u →
    (∃ b k, g = recvCell b k) ∨ ∃ b, g = barCell b
  | [], h => .inl (oweR_pos h)
  | d :: ds, h => by
    unfold oweB at h
    rw [Pi.add_apply, Finsupp.add_apply, tallyAt_apply] at h
    by_cases hg : g = barCell (peer c d)
    · exact .inr ⟨_, hg⟩
    · rw [if_neg (fun h' => hg h'.1), Nat.add_zero] at h; exact oweB_pos h

omit [FloatOps F] in
/-- A semaphore of level 0 may be waited on under everything owed at launch, and under nothing owed. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweB_pos hg with ⟨b, k, rfl⟩ | ⟨b, rfl⟩ <;> exact Finset.mem_singleton_self _)
      (fun p hp => by rw [Finset.mem_singleton.mp hp]; unfold lv; rw [hq]; exact le_refl _)
      (fun g u hg => by
        rcases oweB_pos hg with ⟨b, k, rfl⟩ | ⟨b, rfl⟩
        · rw [lv_recv]; decide
        · rw [lv_bar]; decide)
  · rw [MayWait_zero]; iintro -; iempintro

omit [FloatOps F] in
/-- At its barrier wait a device owes receive credits only, which lie above its barrier cell. -/
theorem mayWait_bar (c : Dev nD) :
    (levAts L lv : sProp 𝕄) ⊢ MayWait (c : Thread nD τ) (.reg barSem) () (oweR c steps) :=
  MayOwe.of_cut (L := L) (lev := lv) 1 (fun p hp => by rw [Finset.mem_singleton.mp hp, L_tc]; exact Finset.mem_singleton_self _)
    (fun g u hg => by obtain ⟨b, k, rfl⟩ := oweR_pos hg; exact Finset.mem_singleton_self _)
    (fun p hp => by rw [Finset.mem_singleton.mp hp]; exact le_of_eq (lv_bar c))
    (fun g u hg => by obtain ⟨b, k, rfl⟩ := oweR_pos hg; rw [lv_recv]; decide)

/-! ## The cells as one family per device -/

/-- The kernel's own semaphores: `false` the sends, `true` the receives. -/
abbrev osem : Bool × Fin 31 → SemLoc sig := fun x => if x.1 then .dma (recvS x.2) else .dma (sendS x.2)
/-- All the kernel's semaphores: the barrier (`none`) and its own. -/
abbrev csem : Option (Bool × Fin 31) → SemLoc sig := fun x => match x with | none => .reg barSem | some y => osem y
abbrev kcell (cj : Dev nD × Option (Bool × Fin 31)) : GSem nD τ sig := ((cj.1 : Thread nD τ), csem cj.2)

/-- Every cell's record: its invariant, under the name the launch gave it, and that it has reached round 0. -/
def records (K : Dev nD × Option (Bool × Fin 31) → ℕ) : sProp 𝕄 :=
  iprop((bigSep Finset.univ fun cj => cellInv ER (sched blk) (K cj) (kcell cj)) ∗ bigSep Finset.univ fun cj => reached ER (kcell cj) 0)

instance records_persistent (K) : BI.Persistent (records (F := F) blk K) := by unfold records; infer_instance

omit [FloatOps F] in
theorem rec_inv (K) (cj) : records (F := F) blk K ⊢ cellInv ER (sched blk) (K cj) (kcell cj) := by
  unfold records; exact sep_elim_left.trans (bigSep_elim (Finset.mem_univ cj))
omit [FloatOps F] in
theorem rec_reached (K) (cj) : records (F := F) blk K ⊢ reached ER (kcell cj) 0 := by
  unfold records; exact sep_elim_right.trans (bigSep_elim (Finset.mem_univ cj))

end Cert.KernelIdeal.Pf

end
-- ==== Proof.LoopRuns.lean ====
/-
  Each of the body's four loops, run by induction on its list of distances: the barrier signals, the copies, the waits for
  the incoming blocks and the waits for the outgoing copies.
-/
module

public import proofs.«01_k».proof.Proof.Protocol

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Transfers (shareTok shareDrop)

variable {F : FTy → Type} [FloatOps F]

local notation "𝕄" => MT nD τ sig Unit (Elt F) ℕ UU ℕ

abbrev 𝒱₀ : Variants := Variants.none

variable (blk : Dev nD → FVec F S1x12x512 .bf16) (K : Dev nD × Option (Bool × Fin 31) → ℕ)

/-- Device `c` runs `p` to `Q`. -/
abbrev runs (c : Dev nD) (p : BodyProg F) (Q : PUnit.{1} → sProp 𝕄) : sProp 𝕄 :=
  wp frame (wpE (defs₀ (F := F)) 𝒱₀ (c : Thread nD τ) none) Set.univ p Q

/-! ## The barrier signals -/

/-- Signalling the listed partners spends their barrier duties, each with the slot it hands over. -/
theorem run_signals (Q : PUnit → sProp 𝕄) (c : Dev nD) (k : BodyProg F) (W : Waits sig Unit) : ∀ ds : List (Fin 31),
    iprop(records blk K ∗ owes (c : Thread nD τ) (oweB c ds) W
        ∗ bigSepL ds (fun d => iprop(dutyTok ER (barCell (peer c d)) 0 d.rev ∗ barPay (F := F) (peer c d) d.rev)))
      ⊢ iprop((owes (c : Thread nD τ) (oweR c steps) W -∗ runs c k Q) -∗ runs c (signals c ds k) Q)
  | [] => by
    unfold signals oweB
    iintro ⟨-, HO, -⟩ Hk
    iapply Hk; iexact HO
  | d :: ds => by
    simp only [signals, oweB, bigSepL_cons', sigDev_eq]
    iintro ⟨#HR, HO, ⟨Ht, Hp⟩, Hds⟩ Hk
    iapply (Rounds.wp_signal 𝒱₀ ER (sched blk) (c : Thread nD τ) none (dst := (peer c d : Thread nD τ)) (κ := K (peer c d, none))
        (d := d.rev) (by rw [duties_bar]; exact Finset.mem_univ _) ((amount_bar blk (peer c d) d.rev).trans (by decide)) () (oweB c ds) rfl)
      $$ [HO Ht Hp]
    · isplitr; · iapply (rec_inv blk K (peer c d, none)); iexact HR
      isplitl [HO]; · iexact HO
      isplitl [Ht]; · iexact Ht
      isplitl [Hp]; · rw [payload_bar]; iexact Hp
      iapply (rec_reached blk K (peer c d, none)); iexact HR
    iintro HO
    iapply (run_signals Q c k W ds) $$ [HO Hds] Hk
    isplitr; · iexact HR
    isplitl [HO]; · iexact HO
    iexact Hds

/-! ## The copies -/

/-- One copy of slot 0 to the partner `n` at position `d`: it spends the send and the receive duty there, the share of
    slot 0 and the partner's slot, and leaves the credit for its completion. -/
theorem run_send (Q : PUnit → sProp 𝕄) (c n : Dev nD) (d : Fin 31) (hn : n = peer c d) (ds : List (Fin 31)) (W : Waits sig Unit)
    (fn : (cc0_scratch0 : Ref sig .tc).ty.Contents (Elt F))
    {hsc : (slot commM d.succ : Memref sig (Dev.tc n : Thread nD τ).2.kind .vmem S12x512 .bf16).view.ref.isScScratch = false}
    {hsrc : (slot commM 0).view.WordExact} {hdst : (slot commM d.succ).view.WordExact}
    {hsem : DmaTarget.Typed .vmem (.dma (recvS d)) (.remote (Dev.tc n : Thread nD τ) (slot commM d.succ) (.dma (sendS d)) hsc)}
    {k : PUnit → BodyProg F} :
    iprop(records blk K ∗ slotPts c 0 (shareTok fullShare 31 d) (gath blk c) ∗ slotPts (peer c d) d.succ fullShare fn
        ∗ owes (c : Thread nD τ) (oweR c (d :: ds)) W
        ∗ dutyTok ER (sendCell c d) 0 0 ∗ dutyTok ER (recvCell (peer c d) d) 0 0)
      ⊢ iprop(((cred (tallyAt (sendCell c d) () N) ∗ owes (c : Thread nD τ) (oweR c ds) W) -∗ runs c (k ⟨⟩) Q)
          -∗ runs c (.op (.enqueueDma (slot commM 0) (.remote (Dev.tc n : Thread nD τ) (slot commM d.succ) (.dma (sendS d)) hsc)
              (.dma (recvS d)) hsrc hdst hsem) k) Q) := by
  subst hn
  have h2 : (((slot commM d.succ).view.loc (peer c d : Thread nD τ) ↦[(slot commM d.succ).view.set]{fullShare}
      ((slot commM d.succ).view.write (Elt F) fn ((slot commM 0).view.read (Elt F) (gath blk c)) Finset.univ)) : sProp 𝕄)
      ⊢ (sched blk).payload (recvCell (peer c d) d) 0 0 := by
    rw [payload_recv]; exact Entails.of_eq (pointsTo_congr fun i hi => landed_eq blk c d fn i hi)
  have h1 : (((slot commM 0).view.loc (c : Thread nD τ) ↦[(slot commM 0).view.set]{shareTok fullShare 31 d} gath blk c) : sProp 𝕄)
      ⊢ (sched blk).payload (sendCell c d) 0 0 := by
    rw [payload_send]; exact BI.Entails.refl _
  have h3 : (slot commM d.succ : Memref sig (Dev.tc (peer c d) : Thread nD τ).2.kind .vmem S12x512 .bf16).view.amount (.dma (recvS d)) = N := rfl
  have hs : slotPts c 0 (shareTok fullShare 31 d) (gath blk c)
      = (((slot commM 0).view.loc (c : Thread nD τ) ↦[(slot commM 0).view.set]{shareTok fullShare 31 d} gath blk c) : sProp 𝕄) := rfl
  have hd : slotPts (peer c d) d.succ fullShare fn
      = (((slot commM d.succ).view.loc (peer c d : Thread nD τ) ↦[(slot commM d.succ).view.set]{fullShare} fn) : sProp 𝕄) := rfl
  rw [hs, hd]
  have hO : oweR c (d::ds) = oweR c ds + tallyAt ((peer c d : Thread nD τ), SemLoc.dma (recvS d)) () N := rfl
  have hd₁ : (0 : Fin 31) ∈ (sched blk).duties (sendCell c d) 0 := by rw [duties_send]; exact Finset.mem_singleton_self _
  have hd₂ : (0 : Fin 31) ∈ (sched blk).duties (recvCell (peer c d) d) 0 := by rw [duties_recv]; exact Finset.mem_singleton_self _
  iintro ⟨#HR, Hs, Hd, HO, Ht₁, Ht₂⟩
  iapply (Rounds.wp_send_pointsTo (hsc := hsc) (hsrc := hsrc) (hdst := hdst) (hsem := hsem) 𝒱₀ ER (sched blk)
    (c : Thread nD τ) none (κ₁ := K (c, some (false, d))) (κ₂ := K (peer c d, some (true, d))) (r₁ := 0) (r₂ := 0) (d₁ := 0) (d₂ := 0)
    (fd := fn) (q := shareTok fullShare 31 d) (fs := gath blk c) (src := slot commM 0) (dst := slot commM d.succ)
    (c' := (peer c d : Thread nD τ)) (sS := .dma (sendS d)) (sem := .dma (recvS d))
    hd₁ hd₂ () () N h3 (amount_send blk c d 0) (amount_recv blk (peer c d) d 0) (oweR c ds) hO (W := W) h1 h2)
  isplitr; · iapply (rec_inv blk K (c, some (false, d))); iexact HR
  isplitr; · iapply (rec_inv blk K (peer c d, some (true, d))); iexact HR
  isplitl [Hs]; · iexact Hs
  isplitl [Hd]; · iexact Hd
  isplitl [HO]; · iexact HO
  isplitl [Ht₁]; · iexact Ht₁
  isplitr; · iapply (rec_reached blk K (c, some (false, d))); iexact HR
  isplitl [Ht₂]; · iexact Ht₂
  iapply (rec_reached blk K (peer c d, some (true, d))); iexact HR

/-- What the copy at position `d` spends. -/
def sendRes (c : Dev nD) (d : Fin 31) : sProp 𝕄 :=
  iprop(slotPts c 0 (shareTok fullShare 31 d) (gath blk c) ∗ (∃ fn, slotPts (peer c d) d.succ fullShare fn)
    ∗ dutyTok ER (sendCell c d) 0 0 ∗ dutyTok ER (recvCell (peer c d) d) 0 0)

/-- The copies to the listed partners. -/
theorem run_sends (Q : PUnit → sProp 𝕄) (c : Dev nD) (W : Waits sig Unit) : ∀ (ds : List (Fin 31)) (k : BodyProg F),
    iprop(records blk K ∗ owes (c : Thread nD τ) (oweR c ds) W ∗ bigSepL ds (sendRes blk c))
      ⊢ iprop(((owes (c : Thread nD τ) 0 W ∗ bigSepL ds (fun d => cred (tallyAt (sendCell c d) () N))) -∗ runs c k Q)
          -∗ runs c (sends commM commM_whole cc0_scratch1 cc0_scratch2 c ds k) Q)
  | [], k => by
    unfold sends oweR
    iintro ⟨-, HO, -⟩ Hk
    iapply Hk
    isplitl [HO]; · iexact HO
    rw [bigSepL_nil]; iempintro
  | d :: ds, k => by
    simp only [sends, bigSepL_cons']
    unfold sendRes
    iintro ⟨#HR, HO, ⟨⟨Hs, ⟨%fn, Hd⟩, Ht₁, Ht₂⟩, Hds⟩⟩ Hk
    iapply (run_send blk K Q c (sendDev c d) d (sendDev_eq c d) ds W fn) $$ [HO Hs Hd Ht₁ Ht₂]
    · isplitr; · iexact HR
      isplitl [Hs]; · iexact Hs
      isplitl [Hd]; · iexact Hd
      isplitl [HO]; · iexact HO
      isplitl [Ht₁] <;> iassumption
    iintro ⟨Hc, HO⟩
    iapply (run_sends Q c W ds k) $$ [HO Hds]
    · isplitr; · iexact HR
      isplitl [HO]; · iexact HO
      unfold sendRes; iexact Hds
    iintro ⟨HO, Hcs⟩
    iapply Hk
    isplitl [HO]; · iexact HO
    isplitl [Hc]; · iexact Hc
    iexact Hcs

/-! ## The waits -/

/-- Waiting for the incoming block at position `d`: the slot, filled, and the cell at zero again. -/
theorem run_recv (Q : PUnit → sProp 𝕄) (c : Dev nD) (d : Fin 31) (W : Waits sig Unit) {src dst : Memref sig .tc .vmem S12x512 .bf16}
    {hsrc : src.view.WordExact} {hdst : dst.view.WordExact} (hN : dst.view.dmaCredit = N) {k : PUnit → BodyProg F} :
    iprop(records blk K ∗ owes (c : Thread nD τ) 0 W ∗ cred (tallyAt (recvCell c d) () N) ∗ atPos ER (recvCell c d) 0 ∅ 0)
      ⊢ iprop(((owes (c : Thread nD τ) 0 (insert (SemLoc.dma (recvS d), ()) W) ∗ semVal (recvCell c d) 0 ∗ recvPay blk c d)
            -∗ runs c (k ⟨⟩) Q)
          -∗ runs c (.op (.waitDma2 (recvS d) src dst hsrc hdst) k) Q) := by
  iintro ⟨#HR, HO, Hc, Hat⟩ Hk
  iapply (Rounds.wp_wait_rest_token 𝒱₀ ER (sched blk) (c : Thread nD τ) none (κ := K (c, some (true, d)))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iapply (rec_inv blk K (c, some (true, d))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv blk c d)) $$ Hpay
  imod (Rounds.cell_close ER (sched blk) (Set.mem_univ (K (c, some (true, d)))) (fun h => h) (R := 0 + 1)
    (duties_later blk (recvCell c d))) $$ [Hat] with Hz
  · isplitr; · iapply (rec_inv blk K (c, some (true, d))); iexact HR
    iexact Hat
  iapply Hk
  isplitl [HO]; · iexact HO
  isplitl [Hz] <;> iassumption

/-- Waiting for the completion of the copy at position `d`: the share of slot 0 back, and the cell at zero again. -/
theorem run_drain (Q : PUnit → sProp 𝕄) (c : Dev nD) (d : Fin 31) (W : Waits sig Unit) {src dst : Memref sig .tc .vmem S12x512 .bf16}
    {hsrc : src.view.WordExact} {hdst : dst.view.WordExact} (hN : dst.view.dmaCredit = N) {k : PUnit → BodyProg F} :
    iprop(records blk K ∗ owes (c : Thread nD τ) 0 W ∗ cred (tallyAt (sendCell c d) () N) ∗ atPos ER (sendCell c d) 0 ∅ 0)
      ⊢ iprop(((owes (c : Thread nD τ) 0 (insert (SemLoc.dma (sendS d), ()) W) ∗ semVal (sendCell c d) 0 ∗ sendPay blk c d)
            -∗ runs c (k ⟨⟩) Q)
          -∗ runs c (.op (.waitDma2 (sendS d) src dst hsrc hdst) k) Q) := by
  iintro ⟨#HR, HO, Hc, Hat⟩ Hk
  iapply (Rounds.wp_wait_rest_token 𝒱₀ ER (sched blk) (c : Thread nD τ) none (κ := K (c, some (false, d)))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (rec_inv blk K (c, some (false, d))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send blk c d)) $$ Hpay
  imod (Rounds.cell_close ER (sched blk) (Set.mem_univ (K (c, some (false, d)))) (fun h => h) (R := 0 + 1)
    (duties_later blk (sendCell c d))) $$ [Hat] with Hz
  · isplitr; · iapply (rec_inv blk K (c, some (false, d))); iexact HR
    iexact Hat
  iapply Hk
  isplitl [HO]; · iexact HO
  isplitl [Hz] <;> iassumption

/-- The waits for the incoming blocks of the listed positions. -/
theorem run_recvs (Q : PUnit → sProp 𝕄) (c : Dev nD) : ∀ (ds : List (Fin 31)) (k : BodyProg F) (W : Waits sig Unit),
    iprop(records blk K ∗ owes (c : Thread nD τ) 0 W
        ∗ bigSepL ds (fun d => iprop(cred (tallyAt (recvCell c d) () N) ∗ atPos ER (recvCell c d) 0 ∅ 0)))
      ⊢ iprop((((∃ W', owes (c : Thread nD τ) 0 W') ∗ bigSepL ds (fun d => iprop(semVal (recvCell c d) 0 ∗ recvPay blk c d))) -∗ runs c k Q)
          -∗ runs c (recvs commM commM_whole cc0_scratch2 ds k) Q)
  | [], k, W => by
    unfold recvs
    iintro ⟨-, HO, -⟩ Hk
    iapply Hk
    isplitl [HO]; · iexists W; iexact HO
    rw [bigSepL_nil]; iempintro
  | d :: ds, k, W => by
    simp only [recvs, bigSepL_cons']
    iintro ⟨#HR, HO, ⟨⟨Hc, Hat⟩, Hds⟩⟩ Hk
    iapply (run_recv (F := F) blk K Q c d W (dst := slot commM d.succ) (src := slot commM 0) rfl) $$ [HO Hc Hat]
    · isplitr; · iexact HR
      isplitl [HO]; · iexact HO
      isplitl [Hc] <;> iassumption
    iintro ⟨HO, Hz⟩
    iapply (run_recvs Q c ds k _) $$ [HO Hds]
    · isplitr; · iexact HR
      isplitl [HO]; · iexact HO
      iexact Hds
    iintro ⟨HO, Hzs⟩
    iapply Hk
    isplitl [HO]; · iexact HO
    isplitl [Hz]; · iexact Hz
    iexact Hzs

/-- The waits for the copies at the listed positions. -/
theorem run_drains (Q : PUnit → sProp 𝕄) (c : Dev nD) : ∀ (ds : List (Fin 31)) (k : BodyProg F) (W : Waits sig Unit),
    iprop(records blk K ∗ owes (c : Thread nD τ) 0 W
        ∗ bigSepL ds (fun d => iprop(cred (tallyAt (sendCell c d) () N) ∗ atPos ER (sendCell c d) 0 ∅ 0)))
      ⊢ iprop((((∃ W', owes (c : Thread nD τ) 0 W') ∗ bigSepL ds (fun d => iprop(semVal (sendCell c d) 0 ∗ sendPay blk c d))) -∗ runs c k Q)
          -∗ runs c (drains commM commM_whole cc0_scratch1 ds k) Q)
  | [], k, W => by
    unfold drains
    iintro ⟨-, HO, -⟩ Hk
    iapply Hk
    isplitl [HO]; · iexists W; iexact HO
    rw [bigSepL_nil]; iempintro
  | d :: ds, k, W => by
    simp only [drains, bigSepL_cons']
    iintro ⟨#HR, HO, ⟨⟨Hc, Hat⟩, Hds⟩⟩ Hk
    iapply (run_drain blk K Q c d W (dst := slot commM 0) (src := slot commM d.succ) rfl) $$ [HO Hc Hat]
    · isplitr; · iexact HR
      isplitl [HO]; · iexact HO
      isplitl [Hc] <;> iassumption
    iintro ⟨HO, Hz⟩
    iapply (run_drains Q c ds k _) $$ [HO Hds]
    · isplitr; · iexact HR
      isplitl [HO]; · iexact HO
      iexact Hds
    iintro ⟨HO, Hzs⟩
    iapply Hk
    isplitl [HO]; · iexact HO
    isplitl [Hz]; · iexact Hz
    iexact Hzs

end Cert.KernelIdeal.Pf

end
-- ==== Proof.Body.lean ====
/-
  The body's run on one device, over any float values: from its staged inputs, its communication buffer and its share of
  the protocol to the output block, every semaphore of its own back at zero.
-/
module

public import proofs.«01_k».proof.Proof.LoopRuns

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

/-! ## The communication buffer, whole and by slots -/

omit [FloatOps F] in
/-- A family over the positions, listed. -/
theorem toL (Φ : Fin 31 → sProp 𝕄) : bigSep Finset.univ Φ = bigSepL steps Φ :=
  bigSep_univ_eq_bigSepL steps (by decide) (by decide) Φ

omit [FloatOps F] in
/-- A family over the slots: slot 0 and the others. -/
theorem slots_split (Φ : Fin 32 → sProp 𝕄) : bigSep Finset.univ Φ = iprop(Φ 0 ∗ bigSep Finset.univ fun d : Fin 31 => Φ d.succ) := by
  rw [bigSep_univ_at Φ 0, show (Finset.univ.erase (0 : Fin 32)) = (Finset.univ : Finset (Fin 31)).map (Fin.succEmb 31) by decide, bigSep_map]
  rfl

omit [FloatOps F] in
/-- The whole buffer is its slots. -/
theorem whole_eq (c : Dev nD) (q : PosShare TreeShare) (f : (cc0_scratch0 : Ref sig .tc).ty.Contents (Elt F)) :
    (((c : Thread nD τ).loc cc0_scratch0) ↦{q} f : sProp 𝕄) = bigSep Finset.univ fun s => slotPts c s q f := by
  unfold slotPts
  refine Eq.trans ?_ (pointsTo_biUnion (ℓ := (c : Thread nD τ).loc cc0_scratch0) (q := q) (f := f) Finset.univ slotSet
    fun s _ t _ h => slot_disjoint s t h)
  exact congrArg (fun S => ((c : Thread nD τ).loc cc0_scratch0 ↦[S]{q} f : sProp 𝕄)) slot_cover.symm

/-- The shares of slot `s` besides the one kept for reading. -/
def restPts (c : Dev nD) (s : Fin 32) (g : (cc0_scratch0 : Ref sig .tc).ty.Contents (Elt F)) : sProp 𝕄 :=
  bigSep Finset.univ fun k : Fin 31 => slotPts c s (shareTok fullShare 31 k) g

omit [FloatOps F] in
theorem slot_toks (c : Dev nD) (s : Fin 32) (g : (cc0_scratch0 : Ref sig .tc).ty.Contents (Elt F)) :
    (slotPts c s fullShare g : sProp 𝕄) = iprop(slotPts c s (shareDrop fullShare 31) g ∗ restPts c s g) := by
  unfold restPts slotPts
  exact equiv_iff.mp ⟨(Transfers.pointsTo_toks fullShare 31).1, (Transfers.pointsTo_toks fullShare 31).2⟩

omit [FloatOps F] in
/-- With slot 0 at the read share and every other slot in full, the buffer can be read whole. -/
theorem gather_split (c : Dev nD) (g : (cc0_scratch0 : Ref sig .tc).ty.Contents (Elt F)) :
    (iprop(slotPts c 0 (shareDrop fullShare 31) g ∗ bigSep Finset.univ fun d : Fin 31 => slotPts c d.succ fullShare g) : sProp 𝕄)
      = iprop((((c : Thread nD τ).loc cc0_scratch0) ↦{shareDrop fullShare 31} g) ∗ bigSep Finset.univ fun d : Fin 31 => restPts c d.succ g) := by
  rw [whole_eq, slots_split, bigSep_congr fun (d : Fin 31) _ => slot_toks c d.succ g, bigSep_sep']
  exact BI.sep_assoc'.antisymm BI.sep_assoc

omit [FloatOps F] in
/-- The shares joined again: the whole buffer. -/
theorem gather_join (c : Dev nD) (g : (cc0_scratch0 : Ref sig .tc).ty.Contents (Elt F)) :
    (iprop((((c : Thread nD τ).loc cc0_scratch0) ↦{shareDrop fullShare 31} g) ∗ (bigSep Finset.univ fun d : Fin 31 => restPts c d.succ g) ∗ restPts c 0 g) : sProp 𝕄)
      ⊢ (((c : Thread nD τ).loc cc0_scratch0) ↦{fullShare} g) := by
  rw [whole_eq c fullShare, slots_split, slot_toks c 0]
  iintro ⟨Hw, Hr, Hz⟩
  ihave H := (Entails.of_eq (gather_split (F := F) c g).symm) $$ [Hw Hr]
  · isplitl [Hw] <;> iassumption
  icases H with ⟨H0, Hs⟩
  isplitl [H0 Hz]
  · isplitl [H0] <;> iassumption
  iexact Hs

omit [FloatOps F] in
theorem barPay_own (c : Dev nD) (d : Fin 31) : (barPay (peer c d) d.rev : sProp 𝕄) = iprop(∃ f, slotPts c d.rev.succ fullShare f) := by
  unfold barPay; rw [peer_rev]

omit [FloatOps F] in
/-- Initially: slot 0, and for each signal the slot it hands over. -/
theorem whole_hand (c : Dev nD) (f : (cc0_scratch0 : Ref sig .tc).ty.Contents (Elt F)) :
    (((c : Thread nD τ).loc cc0_scratch0) ↦{fullShare} f : sProp 𝕄)
      ⊢ iprop(slotPts c 0 fullShare f ∗ bigSep Finset.univ fun d : Fin 31 => barPay (F := F) (peer c d) d.rev) := by
  rw [whole_eq, slots_split, bigSep_univ_equiv Fin.revPerm (fun d : Fin 31 => slotPts c d.succ fullShare f)]
  refine sep_mono_right (bigSep_mono fun d _ => ?_)
  rw [barPay_own, Fin.revPerm_apply]
  show (slotPts c d.rev.succ fullShare f : sProp 𝕄) ⊢ iprop(∃ f, slotPts c d.rev.succ fullShare f)
  iintro H; iexists f; iexact H

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s staged tokens, -/
def xstg (c : Dev nD) : (cc0_stg0_0 : Ref sig .tc).ty.Contents (Elt F) :=
  (win0_0.blk (0 : Fin 1)).view.read (Elt F) ((s₀ m ρ).mem ((c : Thread nD τ).loc main_arg0))
/-- routes -/
def idxstg (c : Dev nD) : (cc0_stg1_0 : Ref sig .tc).ty.Contents (Elt F) :=
  (win0_1.blk (0 : Fin 1)).view.read (Elt F) ((s₀ m ρ).mem ((c : Thread nD τ).loc main_arg2))
/-- and weights. -/
def wstg (c : Dev nD) : (cc0_stg2_0 : Ref sig .tc).ty.Contents (Elt F) :=
  (win0_2.blk (0 : Fin 1)).view.read (Elt F) ((s₀ m ρ).mem ((c : Thread nD τ).loc main_arg3))

abbrev xM : Memref sig .tc .vmem S512x256 .f32 := Memref.whole cc0_stg0_0
abbrev iM : Memref sig .tc .vmem S512x1 .i32 := Memref.whole cc0_stg1_0
abbrev wM : Memref sig .tc .vmem S2x256x512 .f32 := Memref.whole cc0_stg2_0
abbrev oM : Memref sig .tc .vmem S512x512 .f32 := Memref.whole cc0_stg3_0

/-- The weights of the first expert of device `c`, -/
def w0 (c : Dev nD) : FVec F S1x256x512 .f32 :=
  (wM).view.readAt (Elt F) (Rect.unit (s := S2x256x512) ![0, 0, 0] S1x256x512.size inb_S2x256x512_S1x256x512_0_0_0).toLoadRect (wstg m ρ c)
/-- and of the second. -/
def w1 (c : Dev nD) : FVec F S1x256x512 .f32 :=
  (wM).view.readAt (Elt F) (Rect.unit (s := S2x256x512) ![1, 0, 0] S1x256x512.size inb_S2x256x512_S1x256x512_1_0_0).toLoadRect (wstg m ρ c)

/-- The block device `c` computes and sends to everyone. -/
def blk (c : Dev nD) : FVec F S1x12x512 .bf16 := blockOf c (idxstg m ρ c) (xstg m ρ c) (w0 m ρ c) (w1 m ρ c)

/-- Device `c`'s output. -/
def outAt (c : Dev nD) : (cc0_stg3_0 : Ref sig .tc).ty.Contents (Elt F) :=
  k0_pay12 (pickOf c (idxstg m ρ c)) (gath (blk m ρ) c)

/-! ## The pipeline's proof data -/

/-- Device `c`'s share of the protocol: every cell's record; its positions in its own cells; the tokens of the duties it pays. -/
def ghost (K : Dev nD × Option (Bool × Fin 31) → ℕ) (c : Dev nD) : sProp 𝕄 :=
  iprop(records (blk m ρ) K ∗ atPos ER (barCell c) 0 ∅ 0
    ∗ (bigSep Finset.univ fun k => atPos ER (sendCell c k) 0 ∅ 0) ∗ (bigSep Finset.univ fun k => atPos ER (recvCell c k) 0 ∅ 0)
    ∗ (bigSep Finset.univ fun d => dutyTok ER (barCell (peer c d)) 0 d.rev)
    ∗ (bigSep Finset.univ fun d => dutyTok ER (sendCell c d) 0 0) ∗ (bigSep Finset.univ fun d => dutyTok ER (recvCell (peer c d) d) 0 0))

/-- What the body starts from, besides the buffer: that, its credits and the levels. -/
def start (c : Dev nD) : sProp 𝕄 :=
  iprop((∃ K, ghost m ρ K c) ∗ cred (tallyAt (barCell c) () 31) ∗ (bigSep Finset.univ fun k => cred (tallyAt (recvCell c k) () N)) ∗ levAts L lv)

abbrev scr (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m ρ c ∗ scr c)
/-- After the body: the buffer, and every cell's counter at zero. -/
def Φ₁ (c : Dev nD) : sProp 𝕄 :=
  iprop(scr (F := F) c ∗ (bigSep Finset.univ fun k => semVal (sendCell c k) 0) ∗ (bigSep Finset.univ fun k => semVal (recvCell c k) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => idxstg m ρ c
    | ⟨2, _⟩ => wstg m ρ c
    | ⟨3, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Run

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

abbrev rX : Rect S512x256 := Rect.unit (s := S512x256) ![0, 0] S512x256.size inb_S512x256_S512x256_0_0
abbrev rI : Rect S512x1 := Rect.unit (s := S512x1) ![0, 0] S512x1.size inb_S512x1_S512x1_0_0
abbrev rO : Rect S512x512 := Rect.unit (s := S512x512) ![0, 0] S512x512.size inb_S512x512_S512x512_0_0
abbrev rC : Rect S32x12x512 := Rect.unit (s := S32x12x512) ![0, 0, 0] S32x12x512.size inb_S32x12x512_S32x12x512_0_0_0

omit [FloatOps F] in
theorem read_x (f : (cc0_stg0_0 : Ref sig .tc).ty.Contents (Elt F)) : (xM).view.readAt (Elt F) rX.toLoadRect f = f :=
  Memref.readAt_unit_zero (Elt F) cc0_stg0_0 hz2 _ f
omit [FloatOps F] in
theorem read_idx (f : (cc0_stg1_0 : Ref sig .tc).ty.Contents (Elt F)) : (iM).view.readAt (Elt F) rI.toLoadRect f = f :=
  Memref.readAt_unit_zero (Elt F) cc0_stg1_0 hz2 _ f
omit [FloatOps F] in
theorem read_comm (f : (cc0_scratch0 : Ref sig .tc).ty.Contents (Elt F)) : (commM).view.readAt (Elt F) rC.toLoadRect f = f :=
  Memref.readAt_unit_zero (Elt F) cc0_scratch0 hz3 _ f
omit [FloatOps F] in
theorem write_out (f w : (cc0_stg3_0 : Ref sig .tc).ty.Contents (Elt F)) :
    ((oM).access rO : View sig .tc _ _ _).write (Elt F) f w Finset.univ = w :=
  Memref.write_access_unit_zero_univ (Elt F) cc0_stg3_0 hz2 _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Option (Bool × Fin 31) → ℕ) (c : Dev nD) : sProp 𝕄 :=
  iprop((ghost m ρ K c ∗ cred (tallyAt (barCell c) () 31) ∗ (bigSep Finset.univ fun k => cred (tallyAt (recvCell c k) () N)) ∗ levAts L lv ∗ scr c)
    ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ (F := F) c ∗ (dats m ρ 0 c).owesAt () t0_0.succ ∗ stg c cc0_stg0_0 (xstg m ρ c) ∗ stg c cc0_stg1_0 (idxstg m ρ c)
    ∗ stg c cc0_stg2_0 (wstg m ρ c) ∗ stg c cc0_stg3_0 (outAt m ρ c))

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

omit [FloatOps F] in
/-- Slot 0's rectangle touches slot 0 only. -/
theorem slot0_sub : (commM).view.setOn (slotRect 0).set ⊆ slotSet 0 := by
  rw [slotSet_eq]
  intro i hi
  obtain ⟨x, hx, rfl⟩ := Finset.mem_map.mp hi
  exact hx

omit [FloatOps F] in
theorem slot0_sub' : ((commM).access (slotRect 0) : View sig .tc _ _ _).setOn Finset.univ ⊆ slotSet 0 := by
  rw [slotSet_eq]
  exact (View.set_slice_whole cc0_scratch0 (slotRect 0)).subset

/-- After the store, slot 0 holds what the gathered buffer holds there. -/
theorem stored_pts (c : Dev nD) (f : (cc0_scratch0 : Ref sig .tc).ty.Contents (Elt F)) :
    (((commM).access (slotRect 0) : View sig .tc _ _ _).loc (c : Thread nD τ) ↦[slotSet 0]{fullShare}
        (((commM).access (slotRect 0) : View sig .tc _ _ _).write (Elt F) f
          (blockOf c (idxstg m ρ c) (xstg m ρ c)
            ((wM).view.readAt (Elt F) (Rect.unit (s := S2x256x512) ![0, 0, 0] S1x256x512.size inb_S2x256x512_S1x256x512_0_0_0).toLoadRect (wstg m ρ c))
            ((wM).view.readAt (Elt F) (Rect.unit (s := S2x256x512) ![1, 0, 0] S1x256x512.size inb_S2x256x512_S1x256x512_1_0_0).toLoadRect (wstg m ρ c)))
          Finset.univ) : sProp 𝕄)
      = slotPts c 0 fullShare (gath (blk m ρ) c) := by
  unfold slotPts
  exact pointsTo_congr fun i hi => stored_eq (blk m ρ) c f i hi

set_option maxHeartbeats 1600000 in
/-- The body, run from `bodyPre` to `bodyPost`. -/
theorem sound_body (K : Dev nD × Option (Bool × Fin 31) → ℕ) (c : Dev nD) (Kt : PUnit → sProp 𝕄) :
    iprop(bodyPre m ρ K c ∗ (bodyPost m ρ c -∗ Kt ⟨⟩))
      ⊢ runs c (loopBody commM commM_whole cc0_scratch1 cc0_scratch2 xM iM wM oM) Kt := by
  unfold loopBody
  simp only [wp_deviceId]
  unfold bodyPre ghost
  iintro ⟨⟨⟨⟨#HR, HatB, HatS, HatV, HtB, HtS, HtV⟩, HcB, HcV, #Hlev, ⟨%f0, Hscr⟩⟩,
    Ho, ⟨%d0, %g0, %hg0, Hx⟩, ⟨%d1, %g1, %hg1, Hi⟩, ⟨%d2, %g2, %hg2, Hw⟩, ⟨%d3, %g3, %hg3, Hout⟩⟩, Hk⟩
  have hx : g0 = xstg m ρ c := by rw [hg0]; unfold Dat.before; rw [if_pos (fetch_0 t0_0)]; rfl
  have hi : g1 = idxstg m ρ c := by rw [hg1]; unfold Dat.before; rw [if_pos (fetch_1 t0_0)]; rfl
  have hw : g2 = wstg m ρ c := by rw [hg2]; unfold Dat.before; rw [if_pos (fetch_2 t0_0)]; rfl
  subst hx hi hw
  unfold Dat.owesAt Pipeline.owesWithin
  icases Ho with ⟨%W, %hW, HO⟩
  rw [show (dats m ρ 0 c).owed t0_0.castSucc = oweB c steps from rfl]
  -- the barrier signals hand out the slots the partners write
  ihave Hscr := (whole_hand (F := F) c f0) $$ Hscr
  icases Hscr with ⟨H0, Hhand⟩
  iapply (run_signals (blk m ρ) K Kt c _ W steps) $$ [HO HtB Hhand]
  · isplitr; · iexact HR
    isplitl [HO]; · iexact HO
    rw [← toL, bigSep_sep']
    isplitl [HtB] <;> iassumption
  iintro HO
  -- the loads, and the store of the block to slot 0
  iapply (wp_load 𝒱₀ (c : Thread nD τ) none Set.univ (m := iM) (Finset.subset_univ _)) $$ Hi; iintro Hi
  iapply (wp_load 𝒱₀ (c : Thread nD τ) none Set.univ (m := xM) (Finset.subset_univ _)) $$ Hx; iintro Hx
  rw [read_x, read_idx]
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  unfold slotPts
  iapply (wp_load 𝒱₀ (c : Thread nD τ) none Set.univ (m := commM) slot0_sub) $$ H0; iintro H0
  iapply (wp_store 𝒱₀ (c : Thread nD τ) none Set.univ (m := commM) (r := slotRect 0) (Mk := Finset.univ) slot0_sub') $$ H0; iintro H0
  ihave H0 := (Entails.of_eq ((stored_pts m ρ c f0).trans (slot_toks (F := F) c 0 (gath (blk m ρ) c)))) $$ H0
  icases H0 with ⟨H0, Htok⟩
  -- the barrier wait: every partner's slot for this device's block
  iapply (Rounds.wp_wait_rest_token 𝒱₀ ER (sched (blk m ρ)) (c : Thread nD τ) none (κ := K (c, none))
      (wpE_semWait_eq 𝒱₀ (c : Thread nD τ) none Set.univ) (Set.mem_univ _) () (O := oweR c steps) (W := W) (R := 0) (m := 0) (T := ∅)
      (by rw [expect_bar]; decide)) $$ [HcB HO HatB]
  · isplitr; · iapply (rec_inv (blk m ρ) K (c, none)); iexact HR
    isplitl [HcB]; · iexact HcB
    isplitl [HO]; · iexact HO
    isplitr; · iapply (mayWait_bar (F := F) c); iexact Hlev
    iexact HatB
  iintro ⟨HO, HatB, -, Hpay⟩
  ihave Hp := (Entails.of_eq (rest_bar (blk m ρ) c)) $$ Hpay
  imod (Rounds.cell_close ER (sched (blk m ρ)) (Set.mem_univ (K (c, none))) (fun h => h) (R := 0 + 1)
    (duties_later (blk m ρ) (barCell c))) $$ [HatB] with HzB
  · isplitr; · iapply (rec_inv (blk m ρ) K (c, none)); iexact HR
    iexact HatB
  -- the copies
  iapply (run_sends (blk m ρ) K Kt c _ steps _) $$ [HO Htok Hp HtS HtV]
  · isplitr; · iexact HR
    isplitl [HO]; · iexact HO
    rw [← toL]
    unfold sendRes
    rw [bigSep_sep', bigSep_sep', bigSep_sep']
    isplitl [Htok]; · unfold restPts; iexact Htok
    isplitl [Hp]; · unfold barPay; iexact Hp
    isplitl [HtS] <;> iassumption
  iintro ⟨HO, HcS⟩
  -- the incoming blocks
  iapply (run_recvs (blk m ρ) K Kt c steps _ _) $$ [HO HcV HatV]
  · isplitr; · iexact HR
    isplitl [HO]; · iexact HO
    rw [← toL, bigSep_sep']
    isplitl [HcV] <;> iassumption
  iintro ⟨⟨%W₁, HO⟩, HV⟩
  ihave HV := (Entails.of_eq ((toL (F := F) _).symm.trans (bigSep_sep' _ _ _))) $$ HV
  icases HV with ⟨HzV, Hin⟩
  unfold recvPay
  ihave Hg := (Entails.of_eq (gather_split (F := F) c (gath (blk m ρ) c))) $$ [H0 Hin]
  · isplitl [H0] <;> iassumption
  icases Hg with ⟨Hcomm, Hrest⟩
  -- the product
  iapply (wp_load 𝒱₀ (c : Thread nD τ) none Set.univ (m := commM) (Finset.subset_univ _)) $$ Hcomm; iintro Hcomm
  rw [read_comm]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out]
  -- the copies' completions
  iapply (run_drains (blk m ρ) K Kt c steps _ _) $$ [HO HcS HatS]
  · isplitr; · iexact HR
    isplitl [HO]; · iexact HO
    ihave HcS := (Entails.of_eq (toL (F := F) _).symm) $$ HcS
    rw [← toL (F := F) (fun d => iprop(cred (tallyAt (sendCell c d) () N) ∗ atPos ER (sendCell c d) 0 ∅ 0)), bigSep_sep']
    isplitl [HcS]; · iexact HcS
    iexact HatS
  iintro ⟨⟨%W₂, HO⟩, HS⟩
  ihave HS := (Entails.of_eq ((toL (F := F) _).symm.trans (bigSep_sep' _ _ _))) $$ HS
  icases HS with ⟨HzS, Htok⟩
  unfold sendPay
  ihave Hscr := (gather_join (F := F) c (gath (blk m ρ) c)) $$ [Hcomm Hrest Htok]
  · isplitl [Hcomm]; · iexact Hcomm
    isplitl [Hrest]; · iexact Hrest
    unfold restPts; iexact Htok
  unfold runs
  rw [wp_ret]; imodintro
  iapply Hk
  unfold bodyPost Φ₁ Dat.owesAt Pipeline.owesWithin
  rw [show (dats m ρ 0 c).owed t0_0.succ = 0 from rfl]
  isplitl [Hscr HzS HzV HzB]
  · isplitl [Hscr]; · iexists _; iexact Hscr
    isplitl [HzS]; · iexact HzS
    isplitl [HzV] <;> iassumption
  isplitl [HO]
  · iexists W₂
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

/-- What the body starts from, the names chosen by the launch. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) :=
  bigSep_W0 Φ

set_option maxRecDepth 65536 in
/-- The library's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ runs c
    (cc0_body xM (Memref.isWhole_whole _) iM (Memref.isWhole_whole _) wM (Memref.isWhole_whole _) oM (Memref.isWhole_whole _)
      commM (Memref.isWhole_whole _) cc0_scratch1 cc0_scratch2) (fun _ => bodyPost m ρ c)
  rw [body_eq]
  unfold bodyPre' Φ₀ start
  iintro ⟨⟨⟨⟨%K, Hg⟩, Hrest⟩, Hscr⟩, Ho, Hx, Hi, Hw, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hi]; · iexact Hi
    isplitl [Hw] <;> iassumption
  · iintro H; iexact H

end Run

end Cert.KernelIdeal.Pf

end
-- ==== Proof.Launch.lean ====
/-
  The launch. The cells' round states and tokens are dealt to the devices; the global step makes every cell an
  invariant and hands each device the tokens of the duties it pays; the credits of the launch are each device's own
  waits. Then the run of @main over any float values.
-/
module

public import proofs.«01_k».proof.Proof.Body
public import Idealize.ShloMosaic.Lib.Pipeline.CollectiveSegs

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_full (c : Dev nD) (w : Fin cfg0.W) : (dats m ρ 0 c).share w = fullShare := by unfold Dat.share; split <;> rfl

/-! ## The cells and the tokens minted -/

/-- The role tells the semaphores apart. -/
theorem csem_injective : Function.Injective csem := by
  have hr : ∀ x, role (csem x) = (match x with | none => .bar | some (false, k) => .send k | some (true, k) => .recv k) := fun x => by
    rcases x with _ | ⟨_ | _, k⟩
    exacts [role_bar, role_send k, role_recv k]
  intro x y h
  have h' := congrArg role h
  rw [hr, hr] at h'
  rcases x with _ | ⟨_ | _, k⟩ <;> rcases y with _ | ⟨_ | _, k'⟩ <;> simp_all

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

def allCells : Finset (GSem nD τ sig) := Finset.univ.map ⟨kcell, kcell_injective⟩

/-- The duties of a device's own cells: its barrier's 31, and one for each of its other cells. -/
abbrev dutyOf (x : Dev nD × (Fin 31 ⊕ (Bool × Fin 31))) : GSem nD τ sig × ℕ × Fin 31 :=
  match x.2 with
  | .inl d => (barCell x.1, 0, d)
  | .inr y => (kcell (x.1, some y), 0, 0)

theorem dutyOf_injective : Function.Injective dutyOf := by
  rintro ⟨c, j⟩ ⟨c', j'⟩ h
  have key : ∀ x : Dev nD × (Fin 31 ⊕ (Bool × Fin 31)),
      (dutyOf x).1 = kcell (x.1, match x.2 with | .inl _ => none | .inr y => some y) := fun x => by
    rcases x with ⟨_, _ | _⟩ <;> rfl
  have h1 := congrArg Prod.fst h
  rw [key, key] at h1
  have h2 := kcell_injective h1
  rw [Prod.mk.injEq] at h2
  obtain ⟨rfl, h3⟩ := h2
  rcases j with d | y <;> rcases j' with d' | y'
  · have : d = d' := congrArg (fun t : GSem nD τ sig × ℕ × Fin 31 => t.2.2) h
    rw [this]
  · exact absurd h3 (by simp)
  · exact absurd h3 (by simp)
  · have : y = y' := by simpa using h3
    rw [this]

def allToks : Finset (GSem nD τ sig × ℕ × Fin 31) := Finset.univ.map ⟨dutyOf, dutyOf_injective⟩

def u₀ : UU :=
  (initOf (Pipeline.cells cfgs cellOf_inj) (Pipeline.launchToks cfgs cellOf_inj), initOf allCells allToks)

/-- The tokens of the duties of device `c`'s own cells. -/
def ownToks (c : Dev nD) : sProp 𝕄 :=
  iprop((bigSep Finset.univ fun d => dutyTok ER (barCell c) 0 d)
    ∗ (bigSep Finset.univ fun k => dutyTok ER (sendCell c k) 0 0) ∗ (bigSep Finset.univ fun k => dutyTok ER (recvCell c k) 0 0))

/-- The tokens of the duties device `c` pays. -/
def payToks (c : Dev nD) : sProp 𝕄 :=
  iprop((bigSep Finset.univ fun d => dutyTok ER (barCell (peer c d)) 0 d.rev)
    ∗ (bigSep Finset.univ fun d => dutyTok ER (sendCell c d) 0 0) ∗ (bigSep Finset.univ fun d => dutyTok ER (recvCell (peer c d) d) 0 0))

/-- What the launch deals device `c`. -/
def G (c : Dev nD) : sProp 𝕄 :=
  iprop((bigSep Finset.univ fun j => roundState ER (sched (blk m ρ)) (kcell (c, j)) 0)
    ∗ (bigSep Finset.univ fun j => iprop(atPos ER (kcell (c, j)) 0 ∅ 0 ∗ reached ER (kcell (c, j)) 0)) ∗ ownToks c)

/-- What the global step makes of it. -/
def G' (c : Dev nD) : sProp 𝕄 := iprop(∃ K, ghost m ρ K c)

/-! ## Families of cells -/

omit [FloatOps F] in
/-- The kernel's own cells are the sends and the receives; -/
theorem own_split (Φ : SemLoc sig → sProp 𝕄) : (bigSep Finset.univ fun y => Φ (osem y))
    = iprop((bigSep Finset.univ fun k => Φ (.dma (sendS k))) ∗ bigSep Finset.univ fun k => Φ (.dma (recvS k))) := by
  rw [bigSep_univ_prod, bigSep_univ_eq_bigSepL [false, true] (by decide) (by decide)]; rfl

omit [FloatOps F] in
/-- with the barrier, all of them. -/
theorem all_split (Φ : SemLoc sig → sProp 𝕄) : (bigSep Finset.univ fun j => Φ (csem j))
    = iprop((Φ (.reg barSem)) ∗ (bigSep Finset.univ fun k => Φ (.dma (sendS k))) ∗ bigSep Finset.univ fun k => Φ (.dma (recvS k))) := by
  rw [bigSep_univ_equiv (Equiv.optionEquivSumPUnit.{0} (Bool × Fin 31)).symm, bigSep_univ_sum, ← own_split,
    bigSep_univ_eq_bigSepL [PUnit.unit] (by decide) (by decide)]
  exact BI.sep_comm.antisymm BI.sep_comm

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun j => Φ (kcell (c, j)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by
      unfold ownToks
      rw [bigSep_univ_sum]
      exact congrArg _ (own_split fun sm => dutyTok ER ((c : Thread nD τ), sm) 0 0)
  iintro HX
  imod (Rounds.fund ER (sched (blk m ρ)) allCells allToks) $$ HX with ⟨Hst, Hr, Hat, Htok⟩
  imodintro
  ihave Hst' := (Entails.of_eq (hX fun g => roundState ER (sched (blk m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems_eq (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun k => semVal (recvCell c k) 0) := by
  unfold Pipeline.ownSems0; exact own_split fun sm => semVal ((c : Thread nD τ), sm) 0

omit [FloatOps F] in
theorem barSems_eq (c : Dev nD) : (unscopedSems0 c : sProp 𝕄) = semVal (barCell c) 0 := by
  unfold unscopedSems0; rw [bigSep_eq_bigSepL_of_eq [SemLoc.reg barSem] (by decide +kernel) (by decide)]; rfl

omit [FloatOps F] in
theorem sems_join (c : Dev nD) :
    iprop(Pipeline.ownSems0 (Ix := Unit) (Name := ℕ) (U := UU) (Lvl := ℕ) (Val := Elt F) (τ := τ) osem c ∗ unscopedSems0 c)
      ⊢ (bigSep Finset.univ fun j => semVal (kcell (c, j)) 0 : sProp 𝕄) := by
  rw [all_split fun sm => (semVal ((c : Thread nD τ), sm) 0 : sProp 𝕄), ownSems_eq, barSems_eq]
  exact BI.sep_comm

/-! ## The global step -/

theorem alloc_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (sched (blk m ρ)) κ (kcell (c, j))))
          ∗ (bigSep Finset.univ fun j => iprop(atPos ER (kcell (c, j)) 0 ∅ 0 ∗ reached ER (kcell (c, j)) 0)) ∗ ownToks c) := by
  unfold G
  iintro ⟨Hos, Hus, Hst, Hat, Htok⟩
  ihave Hv := (sems_join (F := F) c) $$ [Hos Hus]
  · isplitl [Hos] <;> iassumption
  imod (show iprop((bigSep Finset.univ fun j => semVal (kcell (c, j)) 0) ∗ bigSep Finset.univ fun j => roundState ER (sched (blk m ρ)) (kcell (c, j)) 0)
      ⊢ (|={Set.univ}=> bigSep Finset.univ fun j => iprop(∃ κ : ℕ, cellInv ER (sched (blk m ρ)) κ (kcell (c, j))) : sProp 𝕄) from by
        rw [← bigSep_sep']
        exact (bigSep_mono fun j _ => (Rounds.body_intro ER (sched (blk m ρ)) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- A device's positions in its own cells, and the tokens it pays with. -/
def mine (c : Dev nD) : sProp 𝕄 := iprop((bigSep Finset.univ fun j => atPos ER (kcell (c, j)) 0 ∅ 0) ∗ payToks c)

theorem ghost_intro (K) (c : Dev nD) : iprop(records (blk m ρ) K ∗ mine c) ⊢ G' m ρ c := by
  unfold mine payToks G' ghost
  rw [all_split fun sm => (atPos ER ((c : Thread nD τ), sm) 0 ∅ 0 : sProp 𝕄)]
  iintro ⟨HR, ⟨HaB, HaS, HaV⟩, HtB, HtS, HtV⟩
  iexists K
  isplitl [HR]; · iexact HR
  isplitl [HaB]; · iexact HaB
  isplitl [HaS]; · iexact HaS
  isplitl [HaV]; · iexact HaV
  isplitl [HtB]; · iexact HtB
  isplitl [HtS]; · iexact HtS
  iexact HtV

/-- A device and a distance, seen from the partner. -/
def acrossEquiv : Dev nD × Fin 31 ≃ Dev nD × Fin 31 :=
  ⟨fun x => (peer x.1 x.2, x.2.rev), fun x => (peer x.1 x.2, x.2.rev),
    fun x => by simp only [peer_rev, Fin.rev_rev], fun x => by simp only [peer_rev, Fin.rev_rev]⟩

/-- A distance, and the device that far on. -/
def alongEquiv : Dev nD × Fin 31 ≃ Dev nD × Fin 31 :=
  ⟨fun x => (peer x.1 x.2, x.2), fun x => (peer x.1 x.2.rev, x.2),
    fun x => by simp only [peer_rev], fun x => by simp only [peer_rev']⟩

omit [FloatOps F] in
/-- Every token goes to the device that pays the duty. -/
theorem toks_across : (bigSep Finset.univ fun c : Dev nD => (ownToks c : sProp 𝕄)) = bigSep Finset.univ fun c : Dev nD => payToks c := by
  have hB : (bigSep Finset.univ fun c : Dev nD => bigSep Finset.univ fun d => (dutyTok ER (barCell c) 0 d : sProp 𝕄))
      = bigSep Finset.univ fun c : Dev nD => bigSep Finset.univ fun d => dutyTok ER (barCell (peer c d)) 0 d.rev := by
    rw [← bigSep_univ_prod (fun x : Dev nD × Fin 31 => (dutyTok ER (barCell x.1) 0 x.2 : sProp 𝕄)), bigSep_univ_equiv acrossEquiv, bigSep_univ_prod]; rfl
  have hV : (bigSep Finset.univ fun c : Dev nD => bigSep Finset.univ fun k => (dutyTok ER (recvCell c k) 0 0 : sProp 𝕄))
      = bigSep Finset.univ fun c : Dev nD => bigSep Finset.univ fun k => dutyTok ER (recvCell (peer c k) k) 0 0 := by
    rw [← bigSep_univ_prod (fun x : Dev nD × Fin 31 => (dutyTok ER (recvCell x.1 x.2) 0 0 : sProp 𝕄)), bigSep_univ_equiv alongEquiv, bigSep_univ_prod]; rfl
  unfold ownToks payToks
  rw [bigSep_sep', bigSep_sep', bigSep_sep', bigSep_sep', hB, hV]

theorem regroup :
    (bigSep Finset.univ fun c : Dev nD => iprop((bigSep Finset.univ fun j => iprop(∃ κ : ℕ, cellInv ER (sched (blk m ρ)) κ (kcell (c, j))))
          ∗ (bigSep Finset.univ fun j => iprop(atPos ER (kcell (c, j)) 0 ∅ 0 ∗ reached ER (kcell (c, j)) 0)) ∗ ownToks c) : sProp 𝕄)
      ⊢ bigSep Finset.univ (G' m ρ) := by
  rw [bigSep_sep', bigSep_sep', ← bigSep_univ_prod (fun cj => iprop(∃ κ : ℕ, cellInv ER (sched (blk m ρ)) κ (kcell cj))),
    bigSep_congr (s := Finset.univ) (fun (c : Dev nD) _ => bigSep_sep' Finset.univ (fun j => (atPos ER (kcell (c, j)) 0 ∅ 0 : sProp 𝕄)) (fun j => reached ER (kcell (c, j)) 0)),
    bigSep_sep', ← bigSep_univ_prod (fun cj => (reached ER (kcell cj) 0 : sProp 𝕄)), toks_across]
  iintro ⟨HI, ⟨Hat, #HR⟩, Htok⟩
  ihave HK := (BI.bigSep_exists_pi Finset.univ (fun cj (κ : ℕ) => (cellInv ER (sched (blk m ρ)) κ (kcell cj) : sProp 𝕄))) $$ HI
  icases HK with ⟨%K, #HI⟩
  have hstep : iprop(records (blk m ρ) K ∗ bigSep Finset.univ fun c : Dev nD => mine c) ⊢ bigSep Finset.univ (G' m ρ) :=
    (sep_mono_left (BI.bigSep_of_persistent Finset.univ (records (blk m ρ) K))).trans
      (by rw [← bigSep_sep']; exact bigSep_mono fun c _ => ghost_intro m ρ K c)
  iapply hstep
  isplitr
  · unfold records; isplitl; · iexact HI
    iexact HR
  · unfold mine; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc_cells m ρ c).trans (bigSep_fupd _ _)).trans (BI.fupd_mono (regroup m ρ))

/-! ## The credits of the launch -/

theorem oweR_apply (c : Dev nD) (g : GSem nD τ sig) : ∀ ds, oweR c ds g () = (ds.map fun d => if g = recvCell (peer c d) d then N else 0).sum
  | [] => rfl
  | d :: ds => by
    unfold oweR
    rw [Pi.add_apply, Finsupp.add_apply, tallyAt_apply, oweR_apply c g ds, List.map_cons, List.sum_cons, Nat.add_comm]
    simp only [and_true]

theorem oweB_apply (c : Dev nD) (g : GSem nD τ sig) :
    ∀ ds, oweB c ds g () = (ds.map fun d => if g = barCell (peer c d) then 1 else 0).sum + oweR c steps g ()
  | [] => by simp [oweB]
  | d :: ds => by
    unfold oweB
    rw [Pi.add_apply, Finsupp.add_apply, tallyAt_apply, oweB_apply c g ds, List.map_cons, List.sum_cons]
    simp only [and_true]
    omega

/-- What device `c` owes a cell: one unit for each of its signals to it and one slot for each of its copies to it. -/
theorem O₀_apply (c : Dev nD) (g : GSem nD τ sig) :
    O₀ c g () = (∑ d : Fin 31, if g = barCell (peer c d) then 1 else 0) + ∑ d : Fin 31, if g = recvCell (peer c d) d then N else 0 := by
  unfold O₀; rw [oweB_apply, oweR_apply, Fin.sum_univ_def, Fin.sum_univ_def]; rfl

theorem bar_eq_iff (a b : Dev nD) : Iff (barCell a = barCell b) (a = b) :=
  ⟨fun h => congrArg (fun g : GSem nD τ sig => g.1.1) h, fun h => h ▸ rfl⟩
theorem recv_eq_iff (a b : Dev nD) (k k' : Fin 31) : Iff (recvCell a k = recvCell b k') (a = b ∧ k = k') :=
  ⟨fun h => ⟨congrArg (fun g : GSem nD τ sig => g.1.1) h, by
      have := congrArg (fun g : GSem nD τ sig => role g.2) h
      simp only [role_recv, Role.recv.injEq] at this; exact this⟩, fun h => by rw [h.1, h.2]⟩
theorem bar_ne_recv (a b : Dev nD) (k : Fin 31) : barCell a ≠ recvCell b k := fun h => by
  have := congrArg (fun g : GSem nD τ sig => role g.2) h
  simp [role_recv, role_bar] at this

theorem sum_peer (c : Dev nD) (k : Fin 31) (n : ℕ) : (∑ d : Dev nD, if c = peer d k then n else 0) = n := by
  rw [← Equiv.sum_comp (peerEquiv k).symm]
  rw [Finset.sum_congr rfl fun d _ => show (if c = peer ((peerEquiv k).symm d) k then n else 0) = if c = d then n else 0 by
    rw [show peer ((peerEquiv k).symm d) k = d from (peerEquiv k).apply_symm_apply d]]
  rw [Finset.sum_ite_eq Finset.univ c fun _ => n, if_pos (Finset.mem_univ _)]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => O₀_apply d (barCell c)]
  simp only [bar_eq_iff, if_neg (bar_ne_recv _ _ _), Finset.sum_const_zero, Nat.add_zero]
  rw [Finset.sum_comm, Finset.sum_congr rfl fun k _ => sum_peer c k 1]; rfl

theorem launch_recv (c : Dev nD) (k : Fin 31) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => O₀_apply d (recvCell c k)]
  simp only [recv_eq_iff, if_neg (bar_ne_recv _ _ _).symm, Finset.sum_const_zero, Nat.zero_add]
  rw [Finset.sum_comm, Finset.sum_eq_single k]
  · simp only [and_true]; exact sum_peer c k N
  · intro b _ hb
    exact Finset.sum_eq_zero fun d _ => if_neg fun h => hb h.2.symm
  · intro h; exact absurd (Finset.mem_univ k) h

omit [FloatOps F] in
theorem creds (c : Dev nD) :
    (Pipeline.launchCred O₀ c : sProp 𝕄) ⊢ iprop(cred (tallyAt (barCell c) () 31) ∗ bigSep Finset.univ fun k => cred (tallyAt (recvCell c k) () N)) := by
  classical
  unfold Pipeline.launchCred
  have hsub := bigSep_subset (Finset.subset_univ (Finset.univ.map ⟨csem, csem_injective⟩))
    (Φ := fun sm : SemLoc sig => (cred (tallyOn ((c.tc : Thread nD τ), sm) (launchCredit (Pipeline.owing O₀) 0 ((c.tc : Thread nD τ), sm))) : sProp 𝕄))
  refine hsub.trans ?_
  rw [bigSep_map]
  refine (Entails.of_eq (all_split fun sm : SemLoc sig => (cred (tallyOn ((c.tc : Thread nD τ), sm) (launchCredit (Pipeline.owing O₀) 0 ((c.tc : Thread nD τ), sm))) : sProp 𝕄))).trans ?_
  refine sep_mono (Entails.of_eq (by rw [launch_bar])) (sep_elim_right.trans (Entails.of_eq (bigSep_congr fun k _ => by rw [launch_recv])))

/-! ## The theorem's side conditions -/

/-- What bypasses the region: the argument the kernel never reads. -/
def spare (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ spare m c) := by
  rw [Pipeline.unscopedRestP_none, unscopedRest0_eq]
  iintro ⟨Hsp, Hlev, Hcr, -, HG⟩
  ihave Hc := (creds (F := F) c) $$ Hcr
  icases Hc with ⟨H1, HN⟩
  imodintro
  unfold start G' spare
  isplitr [Hsp]
  · isplitl [HG]; · iexact HG
    isplitl [H1]; · iexact H1
    isplitl [HN]; · iexact HN
    iexact Hlev
  · iexact Hsp

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems_eq, barSems_eq]
  unfold Φ₁ scr
  iintro ⟨Hr, HzS, HzV, HzB⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a run ends with: each window's array as the pipeline leaves it, the argument the kernel never reads unchanged. -/
def Ends (r : PUnit × MemSt nD τ sig (Elt F)) : Prop :=
  ∀ c : Dev nD, (∀ w : Fin cfg0.W, r.2.mem ((cfg0.win w).arr.view.loc (c : Thread nD τ)) = (dats m ρ 0 c).arrAt w cfg0.N)
    ∧ r.2.mem ((c : Thread nD τ).loc main_arg1) = m ((c : Thread nD τ).loc main_arg1)

omit [FloatOps F] in
theorem spare_read (c : Dev nD) (s' : Phys nD τ sig (Elt F)) :
    iprop(spare m c ∗ SI s') ⊢ (iprop(⌜s'.mem.mem ((c : Thread nD τ).loc main_arg1) = m ((c : Thread nD τ).loc main_arg1)⌝ ∗ SI s') : sProp 𝕄) := by
  unfold spare
  iintro ⟨H, HSI⟩
  icombine HSI H gives %h
  isplitr
  · ipureintro; exact Buf.eq_of_forall_mem_univ h
  · iexact HSI

set_option maxRecDepth 8000 in
/-- Over any float values, from any memory with zero counters, every weakly fair execution of @main on the 32 devices
    terminates; every final state has the window arrays at the computed contents, the other argument unchanged and every
    semaphore counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := spare m)
    (hX := start_intro m ρ) (hin := enter m ρ) (hout := leave m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      iintro ⟨Hu, Hs, HSI⟩
      ihave H := (spare_read m c s') $$ [Hs HSI]
      · isplitl [Hs] <;> iassumption
      icases H with ⟨%hm, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hm, hs⟩
      · iexact HSI)
    (hQ := fun _ h hs => ⟨fun c => ⟨(h c).1, (h c).2.2.1⟩, sem_eq_zero hs fun c => (h c).2.2.2⟩)

end Cert.KernelIdeal.Pf

end
-- ==== Proof.Frames.lean ====
/-
  The frames: what a run leaves in the argument buffers, and that every semaphore counter is back at zero. The kernel as
  printed and the kernel over the reals have the same text, so both frames are the one run.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.KernelIdeal.Pf

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The arguments of a device hold what they held at launch. -/
def ArgsKept (c : Dev nD) (r : PUnit × MemSt nD τ sig (Elt F)) : Prop :=
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

/-- Input windows are never written back and the other argument bypasses the kernel. -/
theorem argsKept {r : PUnit × MemSt nD τ sig (Elt F)} (h : Ends m ρ r) (c : Dev nD) : ArgsKept m c r :=
  ⟨((h c).1 (0 : Fin 4)).trans ((dats m ρ 0 c).arrAt_in (0 : Fin 4) rfl _), (h c).2,
    ((h c).1 (1 : Fin 4)).trans ((dats m ρ 0 c).arrAt_in (1 : Fin 4) rfl _),
    ((h c).1 (2 : Fin 4)).trans ((dats m ρ 0 c).arrAt_in (2 : Fin 4) rfl _)⟩

end Cert.KernelIdeal.Pf

namespace Cert.Proof

open Idealize.ShloMosaic Idealize.SL.Sem

/-- The kernel over the reals runs, leaves its arguments unchanged and every counter at zero. -/
theorem frame_ideal : Cert.quiescent_KernelIdeal (hKernelIdeal := Cert.KernelIdeal.Gen.facts) := fun m ρ _ =>
  (θ_run Cert.KernelIdeal.defs _ _).mono (fun _ h => ⟨Cert.KernelIdeal.Pf.argsKept m ρ h.1, h.2⟩)
    (Cert.KernelIdeal.Pf.run_main (F := Ideal) m ρ)

/-- The two programs have one body, -/
theorem bodies_eq : Cert.Kernel.defs₀ (F := Bits) = Cert.KernelIdeal.defs₀ (F := Bits) := by
  unfold Cert.Kernel.defs₀ Cert.KernelIdeal.defs₀
  congr 1
  funext l x
  rcases l with ⟨_ | _, h⟩
  · rfl
  · exact absurd h (Nat.not_lt.2 (Nat.le_add_left _ _))
/-- hence one table of bodies. -/
theorem defs_eq : Cert.Kernel.defs (F := Bits) = Cert.KernelIdeal.defs (F := Bits) := by
  unfold Cert.Kernel.defs Cert.KernelIdeal.defs; rw [bodies_eq]; rfl

/-- So does the kernel as printed. -/
theorem frame_kernel : Cert.quiescent_Kernel (hKernel := Cert.Kernel.Gen.facts) := fun m ρ _ => by
  rw [defs_eq]
  exact (θ_run Cert.KernelIdeal.defs _ _).mono (fun _ h => ⟨Cert.KernelIdeal.Pf.argsKept (F := Bits) m ρ h.1, h.2⟩)
    (Cert.KernelIdeal.Pf.run_main (F := Bits) m ρ)

/-- The reference runs and leaves its arguments unchanged; it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Arrays.lean ====
/-
  The launch's one grid point sees whole arrays: the staged inputs are the arguments themselves, and the result array
  ends at what the body leaves in its block.
-/
module

public import proofs.«01_k».proof.Proof.Launch
public import proofs.«01_k».proof.Proof.Gen.KernelIdeal.Points
public import Idealize.ShloMosaic.Lib.Pipeline.Value
public import Idealize.ShloMosaic.Lib.Pointwise

@[expose] public section

noncomputable section

namespace Cert.KernelIdeal.Pf

open Cert.KernelIdeal Cert.KernelIdeal.Gen
open Idealize.ShloMosaic Idealize.ShloMosaic.TcCoe Idealize.SL.Sem Idealize.ShloMosaic.Pipeline

variable {F : FTy → Type} [FloatOps F]
variable (m : (ℓ : Loc nD τ sig) → Buf (Elt F) ℓ) (ρ : Dev nD → PrngReg)

omit [FloatOps F] in
theorem xstg_eq (c : Dev nD) : xstg m ρ c = m ((c : Thread nD τ).loc main_arg0) := by
  funext i
  refine congrArg (m ((c : Thread nD τ).loc main_arg0)) (funext fun a => Fin.ext ?_)
  fin_cases a
  · show 0 * 512 + 1 * (i 0).val = (i 0).val
    omega
  · show 0 * 256 + 1 * (i 1).val = (i 1).val
    omega

omit [FloatOps F] in
theorem idxstg_eq (c : Dev nD) : idxstg m ρ c = m ((c : Thread nD τ).loc main_arg2) := by
  funext i
  refine congrArg (m ((c : Thread nD τ).loc main_arg2)) (funext fun a => Fin.ext ?_)
  fin_cases a
  · show 0 * 512 + 1 * (i 0).val = (i 0).val
    omega
  · show 0 * 1 + 1 * (i 1).val = (i 1).val
    omega

omit [FloatOps F] in
theorem wstg_eq (c : Dev nD) : wstg m ρ c = m ((c : Thread nD τ).loc main_arg3) := by
  funext i
  refine congrArg (m ((c : Thread nD τ).loc main_arg3)) (funext fun a => Fin.ext ?_)
  fin_cases a
  · show 0 * 2 + 1 * (i 0).val = (i 0).val
    omega
  · show 0 * 256 + 1 * (i 1).val = (i 1).val
    omega
  · show 0 * 512 + 1 * (i 2).val = (i 2).val
    omega

omit [FloatOps F] in
/-- The first expert a device holds. -/
theorem w0_at (c : Dev nD) (d : Fin 256) (h : Fin 512) :
    w0 m ρ c (ix3 0 d h) = m ((c : Thread nD τ).loc main_arg3) (ix3 0 d h) := by
  rw [← wstg_eq m ρ c]
  refine congrArg (wstg m ρ c) (funext fun a => Fin.ext ?_)
  fin_cases a
  · rfl
  · show 0 + 1 * d.val = d.val
    omega
  · show 0 + 1 * h.val = h.val
    omega

omit [FloatOps F] in
/-- The second expert a device holds. -/
theorem w1_at (c : Dev nD) (d : Fin 256) (h : Fin 512) :
    w1 m ρ c (ix3 0 d h) = m ((c : Thread nD τ).loc main_arg3) (ix3 1 d h) := by
  rw [← wstg_eq m ρ c]
  refine congrArg (wstg m ρ c) (funext fun a => Fin.ext ?_)
  fin_cases a
  · rfl
  · show 0 + 1 * d.val = d.val
    omega
  · show 0 + 1 * h.val = h.val
    omega

theorem mem_block (i : S512x512.Idx) (t : Fin cfg0.N) : i ∈ ((cfg0.win 3).blk t).view.set := by
  obtain rfl := fin_N0 t
  show i ∈ ((View.whole main_v1).slice (win0_3.rect t0_0)).set
  rw [View.set_slice_whole, Rect.mem_set_unit]
  intro a
  have h0 : (i 0).val < 512 := (i 0).isLt
  have h1 : (i 1).val < 512 := (i 1).isLt
  fin_cases a
  · show 0 * 512 ≤ (i 0).val ∧ (i 0).val < 0 * 512 + 512
    omega
  · show 0 * 512 ≤ (i 1).val ∧ (i 1).val < 0 * 512 + 512
    omega

/-- The result array ends at the block's contents. -/
theorem result_array (c : Dev nD) : (dats m ρ 0 c).arrAt 3 cfg0.N = outAt m ρ c := by
  refine (dats m ρ 0 c).arrAt_eq_of_cover 3 (outAt m ρ c) (fun t _ => ?_)
    (fun i => ⟨t0_0, flush0_3 _, mem_block i t0_0⟩)
  obtain rfl := fin_N0 t
  funext i
  show outAt m ρ c _ = outAt m ρ c _
  refine congrArg (outAt m ρ c) (funext fun a => Fin.ext ?_)
  fin_cases a
  · show (i 0).val = 0 * 512 + 1 * (i 0).val
    omega
  · show (i 1).val = 0 * 512 + 1 * (i 1).val
    omega

end Cert.KernelIdeal.Pf

end
-- ==== Proof.Words.lean ====
/-
  The kernel's integer words. A token's expert number is a word below 64 and its position among the tokens of that
  expert is a word at most 512, so every sum, product, quotient and remainder the kernel takes of them is the one of the
  natural numbers, and a widened comparison bit is the number 0 or 1.
-/
module

public import proofs.«01_k».proof.Proof.Loops
public import Idealize.ShloMosaic.Lib.Pointwise
public import Idealize.ShloMosaic.Lib.IdealHost
public import Idealize.ShloMosaic.Lib.StableHlo.Predicate

@[expose] public section

noncomputable section

namespace Cert.KernelIdeal.Pf

open Cert.KernelIdeal Cert.KernelIdeal.Gen
open Idealize.ShloMosaic Idealize.ShloMosaic.StableHlo.Predicate

/-- A comparison bit that says `P`, widened and converted, is 1 where `P` holds and 0 elsewhere. -/
theorem bit_real {φ : FTy} (P : Prop) [Decidable P] (b : BitVec 1) (h : b = 1#1 ↔ P) :
    FloatOps.sitofp (F := Ideal) φ (BitVec.setWidth 32 b) = if P then (1 : EReal) else 0 := by
  show (((BitVec.setWidth 32 b).toInt : ℝ) : EReal) = _
  rcases BitVec.eq_zero_or_eq_one b with rfl | rfl
  · have hP : ¬ P := fun hp => absurd (h.mpr hp) (by decide)
    rw [if_neg hP, show (BitVec.setWidth 32 0#1).toInt = 0 from by decide]
    norm_num
  · rw [if_pos (h.mp rfl), show (BitVec.setWidth 32 1#1).toInt = 1 from by decide]
    norm_num

/-- A selection on a bit that says `P`. -/
theorem pick_bit {α : Type} (P : Prop) [Decidable P] (b : BitVec 1) (h : b = 1#1 ↔ P) (x y : α) :
    Scalar.select b x y = if P then x else y := by
  by_cases hP : P
  · rw [if_pos hP, h.mpr hP]; rfl
  · have hb : b = 0#1 := (BitVec.eq_zero_or_eq_one b).resolve_right fun e => hP (h.mp e)
    rw [if_neg hP, hb]; rfl

/-- The words of two small numbers are equal only if the numbers are. -/
theorem word_inj {a b : Nat} (ha : a < 2 ^ 32) (hb : b < 2 ^ 32) : BitVec.ofNat 32 a = BitVec.ofNat 32 b ↔ a = b :=
  ⟨fun h => by
    have h' := congrArg BitVec.toNat h
    rwa [BitVec.toNat_ofNat, BitVec.toNat_ofNat, Nat.mod_eq_of_lt ha, Nat.mod_eq_of_lt hb] at h', congrArg _⟩

/-- A comparison of two small words for equality. -/
theorem eq_bit {a b : Nat} (ha : a < 2 ^ 32) (hb : b < 2 ^ 32) :
    IntOp.cmpi .eq (BitVec.ofNat 32 a) (BitVec.ofNat 32 b) = 1#1 ↔ a = b := cmpi_eq_iff.trans (word_inj ha hb)

/-- A comparison of two small words in order. -/
theorem lt_bit {a b : Nat} (ha : a < 2 ^ 31) (hb : b < 2 ^ 31) :
    IntOp.cmpi .slt (BitVec.ofNat 32 a) (BitVec.ofNat 32 b) = 1#1 ↔ a < b := by
  refine (slt_iff_toNat ?_ ?_).trans ?_ <;> rw [BitVec.toNat_ofNat] <;> (try rw [BitVec.toNat_ofNat]) <;> omega

/-- The same, written the other way round. -/
theorem gt_bit {a b : Nat} (ha : a < 2 ^ 31) (hb : b < 2 ^ 31) :
    IntOp.cmpi .sgt (BitVec.ofNat 32 a) (BitVec.ofNat 32 b) = 1#1 ↔ b < a := by
  refine (sgt_iff_toNat ?_ ?_).trans ?_ <;> rw [BitVec.toNat_ofNat] <;> (try rw [BitVec.toNat_ofNat]) <;> omega

theorem and_bit (a b : BitVec 1) : IntOp.andi a b = 1#1 ↔ a = 1#1 ∧ b = 1#1 := by revert a b; decide

/-- The expert's device, -/
theorem owner_word (e : Fin 64) : IntOp.divsi .vector (BitVec.ofNat 32 e.val) 2#32 = BitVec.ofNat 32 (e.val / 2) := by
  revert e; decide
/-- its place on that device, times the capacity, -/
theorem local_word (e : Fin 64) :
    IntOp.muli (IntOp.remsi .vector (BitVec.ofNat 32 e.val) 2#32) 6#32 = BitVec.ofNat 32 (e.val % 2 * 6) := by
  revert e; decide
/-- the device's own number as the kernel computes it, -/
theorem my_word (c : Dev nD) : Scalar.remsi (Scalar.divsi (Dev.word c) 1#32) 32#32 = BitVec.ofNat 32 c.val := by
  revert c; decide
/-- and the distance from the expert's device to this one, times the slot's twelve rows. -/
theorem dist_word (c : Fin 32) (o : Fin 32) :
    IntOp.muli (IntOp.remsi .vector (IntOp.addi (IntOp.subi (BitVec.ofNat 32 c.val) (BitVec.ofNat 32 o.val)) 32#32) 32#32) 12#32
      = BitVec.ofNat 32 ((c.val + 32 - o.val) % 32 * 12) := by
  revert c o; decide +kernel

theorem add_word (a b : Nat) : IntOp.addi (BitVec.ofNat 32 a) (BitVec.ofNat 32 b) = BitVec.ofNat 32 (a + b) := by
  show BitVec.ofNat 32 a + BitVec.ofNat 32 b = _
  exact (BitVec.ofNat_add _ _).symm

/-- No row has the number the kernel gives a token it does not keep. -/
theorem none_word {r : Nat} (hr : r < 384) : ¬ (4294967295#32 = BitVec.ofNat 32 r) := by
  intro h
  have h' := congrArg BitVec.toNat h
  rw [BitVec.toNat_ofNat, Nat.mod_eq_of_lt (by omega)] at h'
  simp only [BitVec.toNat_ofNat] at h'
  omega

/-- The row a token is sent in: row `r` exactly if this device holds its expert, the token is kept, and `r` is its row. -/
theorem send_bit (c : Dev nD) (e : Fin 64) (n r : Nat) (hn : n ≤ 512) (hr : r < 12) :
    IntOp.cmpi .eq
        (Scalar.select
          (IntOp.andi
            (IntOp.cmpi .eq (IntOp.divsi .vector (BitVec.ofNat 32 e.val) 2#32) (Scalar.remsi (Scalar.divsi (Dev.word c) 1#32) 32#32))
            (IntOp.cmpi .slt (BitVec.ofNat 32 n) 6#32))
          (IntOp.addi (IntOp.muli (IntOp.remsi .vector (BitVec.ofNat 32 e.val) 2#32) 6#32) (BitVec.ofNat 32 n))
          4294967295#32)
        (BitVec.ofNat 32 r) = 1#1
      ↔ (e.val / 2 = c.val ∧ n < 6) ∧ e.val % 2 * 6 + n = r := by
  have hc : c.val < 32 := c.isLt
  have he := e.isLt
  rw [owner_word, local_word, my_word, add_word,
    pick_bit (e.val / 2 = c.val ∧ n < 6) _ ((and_bit _ _).trans (and_congr (eq_bit (by omega) (by omega))
      (lt_bit (a := n) (b := 6) (by omega) (by omega))))]
  by_cases h : e.val / 2 = c.val ∧ n < 6
  · rw [if_pos h, eq_bit (by omega) (by omega)]
    exact ⟨fun e => ⟨h, e⟩, fun e => e.2⟩
  · rw [if_neg h, cmpi_eq_iff]
    exact ⟨fun e => absurd e (none_word (by omega)), fun e => absurd e.1 h⟩

/-- The row a token's result is read from: row `s` exactly if the token is kept and `s` is its row. -/
theorem read_bit (c : Dev nD) (e : Fin 64) (n s : Nat) (hn : n ≤ 512) (hs : s < 384) :
    IntOp.cmpi .eq
        (Scalar.select (IntOp.cmpi .slt (BitVec.ofNat 32 n) 6#32)
          (IntOp.addi
            (IntOp.addi
              (IntOp.muli
                (IntOp.remsi .vector
                  (IntOp.addi (IntOp.subi (Scalar.remsi (Scalar.divsi (Dev.word c) 1#32) 32#32)
                    (IntOp.divsi .vector (BitVec.ofNat 32 e.val) 2#32)) 32#32) 32#32) 12#32)
              (IntOp.muli (IntOp.remsi .vector (BitVec.ofNat 32 e.val) 2#32) 6#32))
            (BitVec.ofNat 32 n))
          4294967295#32)
        (BitVec.ofNat 32 s) = 1#1
      ↔ n < 6 ∧ (c.val + 32 - e.val / 2) % 32 * 12 + e.val % 2 * 6 + n = s := by
  have hc : c.val < 32 := c.isLt
  have he := e.isLt
  rw [owner_word, local_word, my_word, dist_word ⟨c.val, hc⟩ ⟨e.val / 2, by omega⟩, add_word, add_word,
    pick_bit (n < 6) _ (lt_bit (a := n) (b := 6) (by omega) (by omega))]
  by_cases h : n < 6
  · rw [if_pos h, eq_bit (by dsimp only; omega) (by omega)]
    exact ⟨fun e => ⟨h, e⟩, fun e => e.2⟩
  · rw [if_neg h, cmpi_eq_iff]
    exact ⟨fun e => absurd e (none_word (by omega)), fun e => absurd e.1 h⟩

/-- A small whole number converted to a word. -/
theorem real_word (n : Nat) (hn : n ≤ 512) : FloatOps.fptosi (F := Ideal) (φ := .f32) 32 (((n : ℝ) : EReal)) = BitVec.ofNat 32 n := by
  show Ideal.fptosi 32 ((n : ℝ) : EReal) = _
  rw [Ideal.fptosi, Ideal.toIntClamped_coe, if_pos (Nat.cast_nonneg n), Int.floor_natCast, min_eq_right, max_eq_right]
  · exact BitVec.ofInt_natCast 32 n
  · norm_num
  · norm_num; omega

end Cert.KernelIdeal.Pf

end
-- ==== Proof.Count.lean ====
/-
  The number of earlier tokens that go to a token's expert, as the kernel computes it: a product of 0/1 matrices (the
  strictly lower triangle by the tokens' experts), read at the token's own expert, is the count as a real number, and
  its conversion to a word is exact.
-/
module

public import proofs.«01_k».proof.Proof.Words

@[expose] public section

noncomputable section

namespace Cert.KernelIdeal.Pf

open Cert.KernelIdeal Cert.KernelIdeal.Gen
open Idealize.ShloMosaic

/-- Each token's expert, as a number. -/
def ExpertsAre (idx : IVec S512x1 32) (e : Fin 512 → Fin 64) : Prop :=
  ∀ t : Fin 512, idx (ix2 t 0) = BitVec.ofNat 32 (e t).val

/-- How many earlier tokens go to the expert of token `t`. -/
def before (e : Fin 512 → Fin 64) (t : Fin 512) : Nat :=
  (Finset.univ.filter fun j : Fin 512 => j < t ∧ e j = e t).card

theorem before_le (e : Fin 512 → Fin 64) (t : Fin 512) : before e t ≤ 512 :=
  (Finset.card_filter_le _ _).trans (by simp)

/-- A later token of the same expert has more tokens before it. -/
theorem before_lt (e : Fin 512 → Fin 64) {s t : Fin 512} (hst : s < t) (he : e s = e t) : before e s < before e t := by
  refine Finset.card_lt_card ⟨fun j hj => ?_, fun hsub => ?_⟩
  · rw [Finset.mem_filter] at hj ⊢
    exact ⟨hj.1, hj.2.1.trans hst, hj.2.2.trans he⟩
  · have hs := hsub (Finset.mem_filter.mpr ⟨Finset.mem_univ s, hst, he⟩)
    exact lt_irrefl s (Finset.mem_filter.mp hs).2.1

/-- So a token is told by its expert and its position there. -/
theorem before_inj (e : Fin 512 → Fin 64) {s t : Fin 512} (he : e s = e t) (hb : before e s = before e t) : s = t := by
  rcases lt_trichotomy s t with h | h | h
  · exact absurd hb (before_lt e h he).ne
  · exact h
  · exact absurd hb (before_lt e h he.symm).ne'

/-- A sum of ones over the positions with a property is their number. -/
theorem sum_ones {ι : Type} (s : Finset ι) (P : ι → Prop) [DecidablePred P] :
    ∑ i ∈ s, (if P i then (1 : EReal) else 0) = (((s.filter P).card : ℝ) : EReal) := by
  classical
  induction s using Finset.induction_on with
  | empty => simp
  | insert a s ha ih =>
    rw [Finset.sum_insert ha, ih, Finset.filter_insert]
    by_cases h : P a
    · rw [if_pos h, if_pos h, Finset.card_insert_of_notMem (fun hm => ha (Finset.mem_filter.mp hm).1)]
      push_cast
      rw [add_comm]
    · rw [if_neg h, if_neg h, zero_add]

/-- The kernel's position of a token is the number of earlier tokens of its expert. -/
theorem pos_eq (idx : IVec S512x1 32) (e : Fin 512 → Fin 64) (h : ExpertsAre idx e) (t : Fin 512) :
    k0_pay2 (F := Ideal) idx (ix2 t 0) = BitVec.ofNat 32 (before e t) := by
  unfold k0_pay2 k0_pay1
  pointwise
  rw [← real_word _ (before_le e t)]
  refine congrArg (FloatOps.fptosi (F := Ideal) (φ := .f32) 32) ?_
  have hk : ∀ k : Fin 64, Scalar.select (IntOp.cmpi CmpIPredicate.eq (idx (ix2 t 0)) (BitVec.ofNat 32 k.val))
      (∑ j : Fin 512, FloatOps.sitofp (F := Ideal) FTy.f32
            (BitVec.setWidth 32 (IntOp.cmpi CmpIPredicate.sgt (BitVec.ofNat 32 t.val) (BitVec.ofNat 32 j.val))) *
          FloatOps.sitofp (F := Ideal) FTy.f32
            (BitVec.setWidth 32 (IntOp.cmpi CmpIPredicate.eq (idx (ix2 j 0)) (BitVec.ofNat 32 k.val)))) (0 : EReal)
      = if e t = k then ((before e t : ℝ) : EReal) else 0 := fun k => by
    rw [h t, pick_bit (e t = k) _ ((eq_bit (by omega) (by omega)).trans Fin.ext_iff.symm)]
    by_cases hek : e t = k
    · rw [if_pos hek, if_pos hek]
      unfold before
      rw [← sum_ones]
      refine Finset.sum_congr rfl fun j _ => ?_
      rw [h j, bit_real (j < t) _ (gt_bit (a := t.val) (b := j.val) (by omega) (by omega)),
        bit_real (e j = k) _ ((eq_bit (by omega) (by omega)).trans Fin.ext_iff.symm)]
      subst hek
      by_cases h1 : j < t
      · by_cases h2 : e j = e t
        · rw [if_pos h1, if_pos h2, if_pos ⟨h1, h2⟩, one_mul]
        · rw [if_pos h1, if_neg h2, if_neg (fun hh => h2 hh.2), mul_zero]
      · rw [if_neg h1, zero_mul, if_neg (fun hh => h1 hh.1)]
    · rw [if_neg hek, if_neg hek]
  refine (Finset.sum_congr rfl fun k _ => hk k).trans ((Finset.sum_ite_eq Finset.univ (e t) _).trans ?_)
  rw [if_pos (Finset.mem_univ _)]

end Cert.KernelIdeal.Pf

end
-- ==== Proof.Block.lean ====
/-
  What the kernel's body computes, entry by entry: the twelve rows a device sends are its kept tokens' products with
  their experts' matrices, one row per token, and the result takes each kept token's row out of the gathered blocks.
-/
module

public import proofs.«01_k».proof.Proof.Count
public import proofs.«01_k».proof.Proof.Comm

@[expose] public section

noncomputable section

namespace Cert.KernelIdeal.Pf

open Cert.KernelIdeal Cert.KernelIdeal.Gen
open Idealize.ShloMosaic

/-- A sum with one 1 among its zeros picks that entry. -/
theorem sum_pick {ι : Type} [Fintype ι] [DecidableEq ι] (P : ι → Prop) [DecidablePred P] (f : ι → EReal) (a : ι)
    (h : ∀ i, P i ↔ i = a) : ∑ i, (if P i then (1 : EReal) else 0) * f i = f a := by
  rw [Finset.sum_eq_single a (fun i _ hi => by rw [if_neg (fun hp => hi ((h i).mp hp)), zero_mul])
    (fun ha => absurd (Finset.mem_univ a) ha), if_pos ((h a).mpr rfl), one_mul]

/-- A sum with no 1 is zero. -/
theorem sum_none {ι : Type} [Fintype ι] (P : ι → Prop) [DecidablePred P] (f : ι → EReal) (h : ∀ i, ¬ P i) :
    ∑ i, (if P i then (1 : EReal) else 0) * f i = 0 :=
  Finset.sum_eq_zero fun i _ => by rw [if_neg (h i), zero_mul]

/-- The block a device sends, at row `r` and column `h`. -/
theorem block_eq (c : Dev nD) (idx : IVec S512x1 32) (e : Fin 512 → Fin 64) (he : ExpertsAre idx e)
    (x : FVec Ideal S512x256 .f32) (w0 w1 : FVec Ideal S1x256x512 .f32) (r : Fin 12) (h : Fin 512) :
    blockOf (F := Ideal) c idx x w0 w1 (ix3 0 r h)
      = if r.val < 6
        then ∑ d : Fin 256, (∑ t : Fin 512, (if (((e t).val / 2 = c.val ∧ before e t < 6) ∧ (e t).val % 2 * 6 + before e t = r.val)
          then (1 : EReal) else 0) * x (ix2 t d)) * w0 (ix3 0 d h)
        else ∑ d : Fin 256, (∑ t : Fin 512, (if (((e t).val / 2 = c.val ∧ before e t < 6) ∧ (e t).val % 2 * 6 + before e t = r.val)
          then (1 : EReal) else 0) * x (ix2 t d)) * w1 (ix3 0 d h) := by
  unfold blockOf k0_pay9 k0_pay8 k0_pay7 k0_pay6 k0_pay5 k0_pay4 k0_pay3 k0_pay1
  pointwise
  rw [pick_bit (r.val < 6) _ (lt_bit (a := r.val) (b := 6) (by omega) (by omega))]
  have hst : ∀ t : Fin 512, _ = _ := fun t =>
    bit_real (φ := .f32) _ _ (send_bit c (e t) (before e t) r.val (before_le e t) r.isLt)
  simp only [he _, pos_eq idx e he, hst]

/-- Row `s` of the gathered blocks is token `t`'s, or not. -/
theorem pick_eq (c : Dev nD) (idx : IVec S512x1 32) (e : Fin 512 → Fin 64) (he : ExpertsAre idx e) (t : Fin 512) (s : Fin 384) :
    pickOf (F := Ideal) c idx (ix2 t s)
      = if before e t < 6 ∧ (c.val + 32 - (e t).val / 2) % 32 * 12 + (e t).val % 2 * 6 + before e t = s.val
        then (1 : EReal) else 0 := by
  unfold pickOf k0_pay11 k0_pay10 k0_pay5 k0_pay4 k0_pay3 k0_pay1
  pointwise
  rw [he t, pos_eq idx e he]
  exact bit_real (φ := .f32) _ _ (read_bit c (e t) (before e t) s.val (before_le e t) s.isLt)

/-- The result at token `t` and column `h`: a sum over the rows of the gathered blocks. -/
theorem last_eq (p : FVec Ideal S512x384 .bf16) (g : FVec Ideal S32x12x512 .bf16) (t : Fin 512) (h : Fin 512) :
    k0_pay12 (F := Ideal) p g (ix2 t h)
      = ∑ s : Fin 384, p (ix2 t s) * g (ix3 ⟨s.val / 12, by omega⟩ ⟨s.val % 12, by omega⟩ h) := by
  unfold k0_pay12
  pointwise

end Cert.KernelIdeal.Pf

end
-- ==== Proof.Result.lean ====
/-
  The kernel's result. A kept token's row is one of the twelve rows its expert's device sends: no other token of that
  device has the same row, so the row is the token's product with its expert's matrix. The result reads that row back;
  for a token that is not kept it reads none and is zero.
-/
module

public import proofs.«01_k».proof.Proof.Block

@[expose] public section

noncomputable section

namespace Cert.KernelIdeal.Pf

open Cert.KernelIdeal Cert.KernelIdeal.Gen
open Idealize.ShloMosaic

/-- Element `(a, r, h)` of a device's gathered buffer is row `r` of the block of the device that slot `a` hears from. -/
theorem gath_at (B : Dev nD → FVec Ideal S1x12x512 .bf16) (c : Dev nD) (a : Fin 32) (r : Fin 12) (h : Fin 512) :
    gath B c (ix3 a r h) = B (srcOf c a) (ix3 0 r h) := by
  unfold gath
  refine congrArg (B (srcOf c a)) ?_
  funext b
  fin_cases b <;> rfl

variable (x : FVec Ideal S512x256 .f32) (W : FVec Ideal ⟨3, ![64, 256, 512]⟩ .f32) (e : Fin 512 → Fin 64)

/-- Token `t` times the matrix of its expert, at column `h`. -/
def product (t : Fin 512) (h : Fin 512) : EReal := ∑ d : Fin 256, x (ix2 t d) * W (ix3 (e t) d h)

/-- What both programs compute: the product for a token with fewer than six earlier tokens at its expert, else zero. -/
def result (t : Fin 512) (h : Fin 512) : EReal := if before e t < 6 then product x W e t h else 0

variable (idx : IVec S512x1 32) (w0 w1 : Dev nD → FVec Ideal S1x256x512 .f32)

/-- Each device holds the matrices of two experts. -/
def Holds : Prop := ∀ (c : Dev nD) (d : Fin 256) (h : Fin 512) (k : Fin 64),
  (k.val = 2 * c.val → w0 c (ix3 0 d h) = W (ix3 k d h)) ∧ (k.val = 2 * c.val + 1 → w1 c (ix3 0 d h) = W (ix3 k d h))

/-- A kept token's row of its expert's device's block is its product. -/
theorem row_eq (he : ExpertsAre idx e) (hW : Holds W w0 w1) (t : Fin 512) (ht : before e t < 6) (o : Dev nD)
    (ho : o.val = (e t).val / 2) (r : Fin 12) (hr : r.val = (e t).val % 2 * 6 + before e t) (h : Fin 512) :
    blockOf (F := Ideal) o idx x (w0 o) (w1 o) (ix3 0 r h) = product x W e t h := by
  rw [block_eq o idx e he]
  have hone : ∀ i : Fin 512, (((e i).val / 2 = o.val ∧ before e i < 6) ∧ (e i).val % 2 * 6 + before e i = r.val) ↔ i = t := by
    intro i
    constructor
    · rintro ⟨⟨h1, h2⟩, h3⟩
      exact before_inj e (Fin.ext (by omega)) (by omega)
    · rintro rfl
      exact ⟨⟨ho.symm, ht⟩, hr.symm⟩
  have hx : ∀ d : Fin 256, (∑ i : Fin 512, (if (((e i).val / 2 = o.val ∧ before e i < 6) ∧ (e i).val % 2 * 6 + before e i = r.val)
      then (1 : EReal) else 0) * x (ix2 i d)) = x (ix2 t d) := fun d => sum_pick _ (fun i => x (ix2 i d)) t hone
  simp only [hx]
  unfold product
  by_cases h6 : r.val < 6
  · rw [if_pos h6]
    exact Finset.sum_congr rfl fun d _ => by rw [(hW o d h (e t)).1 (by omega)]
  · rw [if_neg h6]
    exact Finset.sum_congr rfl fun d _ => by rw [(hW o d h (e t)).2 (by omega)]

/-- So the result on every device. -/
theorem result_eq (he : ExpertsAre idx e) (hW : Holds W w0 w1) (c : Dev nD) (t : Fin 512) (h : Fin 512) :
    k0_pay12 (F := Ideal) (pickOf c idx) (gath (fun o => blockOf o idx x (w0 o) (w1 o)) c) (ix2 t h) = result x W e t h := by
  rw [last_eq]
  simp only [pick_eq c idx e he]
  unfold result
  have hc : c.val < 32 := c.isLt
  have hev := (e t).isLt
  by_cases ht : before e t < 6
  · rw [if_pos ht]
    have hS : (c.val + 32 - (e t).val / 2) % 32 * 12 + (e t).val % 2 * 6 + before e t < 384 := by omega
    rw [sum_pick _ (fun s : Fin 384 => gath (fun o => blockOf (F := Ideal) o idx x (w0 o) (w1 o)) c
        (ix3 ⟨s.val / 12, by omega⟩ ⟨s.val % 12, by omega⟩ h)) ⟨_, hS⟩
      (fun s => ⟨fun hs => Fin.ext hs.2.symm, fun hs => ⟨ht, by rw [hs]⟩⟩)]
    rw [gath_at]
    refine row_eq x W e idx w0 w1 he hW t ht _ ?_ _ ?_ h
    · show (c.val + (32 - _)) % 32 = _
      dsimp only
      omega
    · dsimp only
      omega
  · rw [if_neg ht]
    exact sum_none _ _ fun s hs => ht hs.1

end Cert.KernelIdeal.Pf

end
-- ==== Proof.Ref.lean ====
/-
  The reference's result, entry by entry: the same count of earlier tokens, taken as a sum of integers, and the token's
  product with the matrix that the gather fetches for it.
-/
module

public import proofs.«01_k».proof.Proof.Result
public import proofs.«01_k».proof.Proof.Gen.ReferenceIdeal.Run
public import Idealize.ShloMosaic.Lib.IndicatorCount

@[expose] public section

noncomputable section

namespace Cert.ReferenceIdeal.Pf

open Cert.ReferenceIdeal Cert.ReferenceIdeal.Gen Cert.KernelIdeal.Pf
open Idealize.ShloMosaic Idealize.ShloMosaic.StableHlo.Predicate

abbrev fetch := gather_S64x256x512_S512x1_S512x256x512_12_0_n_n_0_1_1256512

/-- The gather fetches, for a token whose index names one of the 64 experts, that expert's matrix. -/
theorem fetch_at (W : FVec Ideal S64x256x512 .f32) (idx : IVec S512x1 32) (t : Fin 512) (d : Fin 256) (h : Fin 512) (k : Fin 64)
    (hk : idx (ix2 t 0) = BitVec.ofNat 32 k.val) : Host.gather fetch W idx (ix3 t d h) = W (ix3 k d h) := by
  unfold Host.gather
  refine congrArg W (funext fun a => Fin.ext ?_)
  show fetch.start (ix3 t d h) idx a + fetch.batchCoord (ix3 t d h) a + fetch.offCoord (ix3 t d h) a = _
  rw [fetch.batchCoord_eq_zero _ _ List.not_mem_nil, Nat.add_zero]
  have hkl := k.isLt
  match a with
  | ⟨0, _⟩ =>
    have hm : (0 : Fin 3) ∈ fetch.startIndexMap := List.mem_singleton.mpr rfl
    have hoff : fetch.offCoord (ix3 t d h) (0 : Fin 3) = 0 :=
      fetch.offCoord_eq_zero _ _ fun hs => ((fetch.mem_sKept _).mp hs).1 (List.mem_singleton.mpr rfl)
    show fetch.start (ix3 t d h) idx (0 : Fin 3) + fetch.offCoord (ix3 t d h) (0 : Fin 3) = k.val
    rw [hoff, Nat.add_zero]
    unfold GatherDims.start
    rw [dif_pos hm]
    have hsi : fetch.siIdx (ix3 t d h) ⟨fetch.startIndexMap.idxOf (0 : Fin 3), List.idxOf_lt_length_iff.2 hm⟩ = ix2 t 0 := by
      funext b
      fin_cases b <;> rfl
    rw [hsi, hk, toInt_ofNat_small _ (by omega)]
    show min (Int.toNat (k.val : Int)) (64 - 1) = k.val
    rw [Int.toNat_natCast]
    omega
  | ⟨1, _⟩ =>
    show fetch.start (ix3 t d h) idx (1 : Fin 3) + fetch.offCoord (ix3 t d h) (1 : Fin 3) = d.val
    have hs : fetch.start (ix3 t d h) idx (1 : Fin 3) = 0 := by
      unfold GatherDims.start
      exact dif_neg (by decide)
    rw [hs, Nat.zero_add]
    rfl
  | ⟨2, _⟩ =>
    show fetch.start (ix3 t d h) idx (2 : Fin 3) + fetch.offCoord (ix3 t d h) (2 : Fin 3) = h.val
    have hs : fetch.start (ix3 t d h) idx (2 : Fin 3) = 0 := by
      unfold GatherDims.start
      exact dif_neg (by decide)
    rw [hs, Nat.zero_add]
    rfl

/-- The reference's sum of widened bits is the number of earlier tokens of the same expert. -/
theorem count_eq (idx : IVec S512x1 32) (e : Fin 512 → Fin 64) (he : ExpertsAre idx e) (t : Fin 512) :
    Finset.fold IntOp.addi (0#32)
        (fun j : Fin 512 => BitVec.setWidth 32
          (IntOp.andi (IntOp.cmpi CmpIPredicate.eq (idx (ix2 t 0)) (idx (ix2 j 0)))
            (IntOp.cmpi CmpIPredicate.slt (BitVec.ofNat 32 j.val) (BitVec.ofNat 32 t.val)))) Finset.univ
      = BitVec.ofNat 32 (before e t) := by
  rw [IndicatorCount.fold_addi_setWidth_eq_card]
  unfold before
  refine congrArg (fun s : Finset (Fin 512) => BitVec.ofNat 32 s.card) (Finset.filter_congr fun j _ => ?_)
  rw [he t, he j, and_bit, eq_bit (by omega) (by omega), lt_bit (by omega) (by omega)]
  exact ⟨fun hh => ⟨hh.2, Fin.ext hh.1.symm⟩, fun hh => ⟨congrArg Fin.val hh.2.symm, hh.1⟩⟩

/-- The reference's result. -/
theorem value_eq (x : FVec Ideal S512x256 .f32) (idx : IVec S512x1 32) (W : FVec Ideal S64x256x512 .f32)
    (e : Fin 512 → Fin 64) (he : ExpertsAre idx e) (t h : Fin 512) :
    select (broadcastInDim S512x512 ![0, 1] bcast_S512x1_S512x512_0_1 (broadcastInDim S512x1 ![0] bcast_S512_S512x1_0
        (cmpi .slt (Host.reduce IntOp.addi (extui 32 (andi
            (cmpi .eq (broadcastInDim S512x512 ![0, 1] bcast_S512x1_S512x512_0_1 (broadcastInDim S512x1 ![0] bcast_S512_S512x1_0 (shapeCast _ idx shapeCasts_S512x1_S512)))
              (broadcastInDim S512x512 ![0, 1] bcast_S1x512_S512x512_0_1 (broadcastInDim S1x512 ![1] bcast_S512_S1x512_1 (shapeCast _ idx shapeCasts_S512x1_S512))))
            (cmpi .slt (iotaInDim S512x512 32 1) (iotaInDim S512x512 32 0))) natLt_1_32)
          (constantI S_ 32 0#32) reducesTo_S512x512_S512_d1 h_S_) (broadcastInDim S512 ![] bcast_S_S512 (constantI S_ 32 6#32)))))
      (Host.dotGeneral dot_S512x256_S512x256x512_S512x512_1_1_n_2_0_0 none x
        (Host.gather fetch W (broadcastInDim S512x1 ![0] bcast_S512_S512x1_0 (shapeCast _ idx shapeCasts_S512x1_S512))))
      (broadcastInDim S512x512 ![] bcast_S_S512x512 (id (constant (F := Ideal) S_ .f32 0x00000000#32))) (ix2 t h)
      = result x W e t h := by
  pointwise
  have hz : id (constant (F := Ideal) S_ .f32 0x00000000#32) ix0 = (0 : EReal) := by
    show constant (F := Ideal) S_ .f32 0x00000000#32 ix0 = (0 : EReal)
    pointwise
  have hcol : ∀ s : Fin 512, broadcastInDim S512x1 ![0] bcast_S512_S512x1_0 (shapeCast S512 idx shapeCasts_S512x1_S512) (ix2 s 0)
      = BitVec.ofNat 32 (e s).val := fun s => by
    pointwise
    exact he s
  have hn := before_le e t
  rw [hz, count_eq idx e he t, pick_bit (before e t < 6) _ (lt_bit (a := before e t) (b := 6) (by omega) (by omega))]
  unfold result product
  refine congrArg (fun y : EReal => if before e t < 6 then y else 0) (Finset.sum_congr rfl fun d _ => ?_)
  rw [fetch_at W _ t d h (e t) (hcol t)]

end Cert.ReferenceIdeal.Pf

end
-- ==== Proof.Algebraic.lean ====
/-
  The value claim. The precondition says that every token's index names one of the 64 experts; then the result on every
  device and the reference's result are both the token's product with its expert's matrix, or zero for a token past its
  expert's capacity.
-/
module

public import proofs.«01_k».proof.Proof.Arrays
public import proofs.«01_k».proof.Proof.Frames
public import proofs.«01_k».proof.Proof.Ref
public import Idealize.ShloMosaic.Lib.ReduceAll

@[expose] public section

noncomputable section

namespace Cert.Proof

open Idealize.ShloMosaic Idealize.SL.Sem Idealize.ShloMosaic.StableHlo.Predicate

/-- The predicate's side conditions, over the kernel's arguments -/
theorem range_facts : Cert.Pre_routes_in_range_KernelIdeal.Facts where
  bcast_S_S512x1 := by decide
  reducesTo_S512x1_S_d0_1 := by decide
  h_S_ := by decide

/-- and over the reference's. -/
theorem range_facts_ref : Cert.Pre_routes_in_range_ReferenceIdeal.Facts where
  bcast_S_S512x1 := by decide
  reducesTo_S512x1_S_d0_1 := by decide
  h_S_ := by decide

/-- A word that is at least 0 and less than 64, read as signed numbers, is a natural number below 64. -/
theorem word_in_range (a : BitVec 32) (h0 : IntOp.cmpi .sge a 0#32 = 1#1) (h1 : IntOp.cmpi .slt a 64#32 = 1#1) :
    a.toNat < 64 := by
  have h0' : (0#32).sle a = true := (ofBool_eq_one_iff _).mp h0
  have h1' : a.slt 64#32 = true := (ofBool_eq_one_iff _).mp h1
  rw [BitVec.sle_eq_decide, decide_eq_true_eq] at h0'
  rw [BitVec.slt_eq_decide, decide_eq_true_eq] at h1'
  have e0 : (0#32).toInt = 0 := by decide
  have e1 : (64#32).toInt = 64 := by decide
  rw [e0] at h0'
  rw [e1] at h1'
  rw [BitVec.toInt_eq_toNat_cond] at h0' h1'
  have := a.isLt
  split at h0' <;> omega

/-- The precondition, read at a token. -/
theorem in_range (x : FVec Ideal ⟨2, ![512, 256]⟩ .f32) (r : FVec Ideal ⟨2, ![256, 64]⟩ .f32) (idx : IVec ⟨2, ![512, 1]⟩ 32)
    (w : FVec Ideal ⟨3, ![2, 256, 512]⟩ .f32)
    (h : @Cert.Pre_routes_in_range_KernelIdeal.fn range_facts Ideal _ x r idx w = fun _ => 1#1) (t : Fin 512) :
    (idx (ix2 t 0)).toNat < 64 := by
  haveI : Subsingleton (Cert.Pre_routes_in_range_KernelIdeal.S_).Idx := ⟨fun a b => funext fun k => k.elim0⟩
  have hb := congrFun h ix0
  unfold Cert.Pre_routes_in_range_KernelIdeal.fn at hb
  obtain ⟨h0, h1⟩ := (Cert.KernelIdeal.Pf.and_bit _ _).mp hb
  exact word_in_range _ (Host.reduce_andi_all _ _ _ _ _ h0 (ix2 t 0)) (Host.reduce_andi_all _ _ _ _ _ h1 (ix2 t 0))

/-- So the tokens have experts. -/
theorem experts_of_range (idx : IVec ⟨2, ![512, 1]⟩ 32) (h : ∀ t : Fin 512, (idx (ix2 t 0)).toNat < 64) :
    ∃ e : Fin 512 → Fin 64, Cert.KernelIdeal.Pf.ExpertsAre idx e :=
  ⟨fun t => ⟨_, h t⟩, fun t => BitVec.eq_of_toNat_eq (by rw [BitVec.toNat_ofNat, Nat.mod_eq_of_lt (BitVec.isLt _)])⟩

/-- Under the precondition the frames hold as they do without it. -/
theorem frame_ideal_range : Cert.quiescent_KernelIdeal_pre_routes_in_range_KernelIdeal
    (hKernelIdeal := Cert.KernelIdeal.Gen.facts) (hPre_routes_in_range_KernelIdeal := range_facts) :=
  fun m ρ _ => frame_ideal m ρ trivial

theorem frame_reference_range : Cert.quiescent_ReferenceIdeal_pre_routes_in_range_ReferenceIdeal
    (hReferenceIdeal := Cert.ReferenceIdeal.Gen.facts) (hPre_routes_in_range_ReferenceIdeal := range_facts_ref) :=
  fun m ρ _ => frame_reference m ρ trivial

end Cert.Proof

namespace Cert.KernelIdeal.Pf

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)
variable (x : FVec Ideal S512x256 .f32) (idx : IVec S512x1 32) (W : FVec Ideal ⟨3, ![64, 256, 512]⟩ .f32)

/-- The matrices staged on the devices are the 64 experts' matrices, two to a device. -/
theorem holds_of_cut (hW : ∀ c : Dev nD, m ((c : Thread nD τ).loc main_arg3)
      = Layout.block ⟨3, ![2, 256, 512]⟩ ⟨3, ![64, 256, 512]⟩ 0 32 c W) : Holds W (w0 m ρ) (w1 m ρ) := by
  intro c d h k
  refine ⟨fun hk => ?_, fun hk => ?_⟩
  · rw [w0_at, hW c]
    refine congrArg W (funext fun a => Fin.ext ?_)
    fin_cases a
    · show c.val * 2 + 0 = k.val
      omega
    · rfl
    · rfl
  · rw [w1_at, hW c]
    refine congrArg W (funext fun a => Fin.ext ?_)
    fin_cases a
    · show c.val * 2 + 1 = k.val
      omega
    · rfl
    · rfl

/-- What the kernel leaves in its result array. -/
theorem out_eq (e : Fin 512 → Fin 64) (he : ExpertsAre idx e)
    (hx : ∀ c : Dev nD, m ((c : Thread nD τ).loc main_arg0) = x)
    (hi : ∀ c : Dev nD, m ((c : Thread nD τ).loc main_arg2) = idx)
    (hW : ∀ c : Dev nD, m ((c : Thread nD τ).loc main_arg3)
      = Layout.block ⟨3, ![2, 256, 512]⟩ ⟨3, ![64, 256, 512]⟩ 0 32 c W) (c : Dev nD) (t h : Fin 512) :
    outAt m ρ c (ix2 t h) = result x W e t h := by
  have hb : blk m ρ = fun o => blockOf o idx x (w0 m ρ o) (w1 m ρ o) := by
    funext o
    show blockOf o (idxstg m ρ o) (xstg m ρ o) (w0 m ρ o) (w1 m ρ o) = _
    rw [idxstg_eq, xstg_eq, hx o, hi o]
  show k0_pay12 (F := Ideal) (pickOf c (idxstg m ρ c)) (gath (blk m ρ) c) (ix2 t h) = _
  rw [hb, idxstg_eq, hi c]
  exact result_eq x W e idx (w0 m ρ) (w1 m ρ) he (holds_of_cut m ρ W hW) c t h

end Cert.KernelIdeal.Pf

namespace Cert.Proof

open Idealize.ShloMosaic Idealize.SL.Sem

/-- The two programs leave the same result. -/
theorem algebraic : Cert.algebraic_KernelIdeal_ReferenceIdeal_pre_routes_in_range_KernelIdeal
    (hKernelIdeal := Cert.KernelIdeal.Gen.facts) (hReferenceIdeal := Cert.ReferenceIdeal.Gen.facts)
    (hPre_routes_in_range_KernelIdeal := range_facts) := by
  intro m g m' g' hpre hargs
  obtain ⟨e, he⟩ := experts_of_range _ (in_range _ _ _ _ (hpre 0))
  rw [(hargs 0).2.2.1] at he
  refine ⟨fun i => Cert.KernelIdeal.Pf.result (m' (((0 : Dev Cert.ReferenceIdeal.nD).tc :
      Thread Cert.ReferenceIdeal.nD Cert.ReferenceIdeal.τ).loc Cert.ReferenceIdeal.main_arg0)) (m' (((0 : Dev Cert.ReferenceIdeal.nD).tc :
      Thread Cert.ReferenceIdeal.nD Cert.ReferenceIdeal.τ).loc Cert.ReferenceIdeal.main_arg3)) e (i 0) (i 1), ?_, ?_⟩
  · refine (θ_run Cert.KernelIdeal.defs _ _).mono (fun r h c => ⟨?_, Cert.KernelIdeal.Pf.argsKept m g h.1 c⟩)
      (Cert.KernelIdeal.Pf.run_main (F := Ideal) m g)
    refine ((h.1 c).1 (3 : Fin 4)).trans ((Cert.KernelIdeal.Pf.result_array m g c).trans (funext fun i => ?_))
    have hi : i = ix2 (i 0) (i 1) := by
      funext a
      fin_cases a <;> rfl
    rw [hi]
    exact Cert.KernelIdeal.Pf.out_eq m g _ _ _ _ he (fun o => (hargs o).1) (fun o => (hargs o).2.2.1)
      (fun o => (hargs o).2.2.2) c (i 0) (i 1)
  · refine (θ_run Cert.ReferenceIdeal.defs _ _).mono (fun r h => ⟨?_, (h 0).2⟩)
      (Cert.ReferenceIdeal.Value.run (F := Ideal) m' g')
    refine (h 0).1.trans (funext fun i => ?_)
    have hi : i = ix2 (i 0) (i 1) := by
      funext a
      fin_cases a <;> rfl
    rw [hi]
    exact Cert.ReferenceIdeal.Pf.value_eq _ _ _ _ he (i 0) (i 1)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  range_facts, range_facts_ref, frame_kernel, frame_ideal, frame_ideal_range, frame_reference, frame_reference_range,
  trivial, algebraic⟩

end Cert.Proof

end
